-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x32 : Shape := ⟨2, ![32768, 32]⟩
abbrev S32x32768 : Shape := ⟨2, ![32, 32768]⟩
abbrev S32768 : Shape := ⟨1, ![32768]⟩
abbrev S32x1152 : Shape := ⟨2, ![32, 1152]⟩
abbrev S1024 : Shape := ⟨1, ![1024]⟩
abbrev S16 : Shape := ⟨1, ![16]⟩
abbrev S_ : Shape := ⟨0, ![]⟩
abbrev S1x16 : Shape := ⟨2, ![1, 16]⟩

abbrev nBuf : Table → Nat
  | .hbm => 3
  | .local .scVector .vmem => 3
  | _ => 0

abbrev bufTy : (tb : Table) → Fin (nBuf tb) → BufTy
  | .hbm, ⟨0, _⟩ => ⟨S32768x32, .f32⟩
  | .hbm, ⟨1, _⟩ => ⟨S32x32768, .f32⟩
  | .hbm, ⟨2, _⟩ => ⟨S32768, .i32⟩
  | .local .scVector .vmem, ⟨0, _⟩ => ⟨S32x1152, .f32⟩
  | .local .scVector .vmem, ⟨1, _⟩ => ⟨S1024, .i32⟩
  | .local .scVector .vmem, ⟨2, _⟩ => ⟨S16, .i32⟩
  | _, _ => ⟨S32768x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let v5 : BitVec 32 := Scalar.subi v2 v4
  v5
def k0_off1 (i : grid0.Coords) : Fin 2 → Nat :=
  let c0_i32_46_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let v5 : BitVec 32 := Scalar.subi v2 v4
  let v6 : BitVec 32 := v5
  ![0, v6.toNat]
def k0_off2 (i : grid0.Coords) : Fin 2 → Nat :=
  let c0_i32_6 : BitVec 32 := 0#32
  let v21 : Index := Scalar.indexCast c0_i32_6
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v22 : Index := Scalar.indexCast v20
  ![0, v22.toNat]
def k0_off3 (i : grid0.Coords) : Fin 2 → Nat :=
  let c1_i32_8 : BitVec 32 := 1#32
  let v25 : Index := Scalar.indexCast c1_i32_8
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v26 : Index := Scalar.indexCast v20
  ![1, v26.toNat]
def k0_off4 (i : grid0.Coords) : Fin 2 → Nat :=
  let c2_i32_10 : BitVec 32 := 2#32
  let v32 : Index := Scalar.indexCast c2_i32_10
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v33 : Index := Scalar.indexCast v20
  ![2, v33.toNat]
def k0_off5 (i : grid0.Coords) : Fin 2 → Nat :=
  let c3_i32 : BitVec 32 := 3#32
  let v39 : Index := Scalar.indexCast c3_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v40 : Index := Scalar.indexCast v20
  ![3, v40.toNat]
def k0_off6 (i : grid0.Coords) : Fin 2 → Nat :=
  let c4_i32 : BitVec 32 := 4#32
  let v46 : Index := Scalar.indexCast c4_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v47 : Index := Scalar.indexCast v20
  ![4, v47.toNat]
def k0_off7 (i : grid0.Coords) : Fin 2 → Nat :=
  let c5_i32 : BitVec 32 := 5#32
  let v53 : Index := Scalar.indexCast c5_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v54 : Index := Scalar.indexCast v20
  ![5, v54.toNat]
def k0_off8 (i : grid0.Coords) : Fin 2 → Nat :=
  let c6_i32 : BitVec 32 := 6#32
  let v60 : Index := Scalar.indexCast c6_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v61 : Index := Scalar.indexCast v20
  ![6, v61.toNat]
def k0_off9 (i : grid0.Coords) : Fin 2 → Nat :=
  let c7_i32 : BitVec 32 := 7#32
  let v67 : Index := Scalar.indexCast c7_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v68 : Index := Scalar.indexCast v20
  ![7, v68.toNat]
def k0_off10 (i : grid0.Coords) : Fin 2 → Nat :=
  let c8_i32 : BitVec 32 := 8#32
  let v74 : Index := Scalar.indexCast c8_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v75 : Index := Scalar.indexCast v20
  ![8, v75.toNat]
def k0_off11 (i : grid0.Coords) : Fin 2 → Nat :=
  let c9_i32 : BitVec 32 := 9#32
  let v81 : Index := Scalar.indexCast c9_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v82 : Index := Scalar.indexCast v20
  ![9, v82.toNat]
def k0_off12 (i : grid0.Coords) : Fin 2 → Nat :=
  let c10_i32 : BitVec 32 := 10#32
  let v88 : Index := Scalar.indexCast c10_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v89 : Index := Scalar.indexCast v20
  ![10, v89.toNat]
def k0_off13 (i : grid0.Coords) : Fin 2 → Nat :=
  let c11_i32 : BitVec 32 := 11#32
  let v95 : Index := Scalar.indexCast c11_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v96 : Index := Scalar.indexCast v20
  ![11, v96.toNat]
def k0_off14 (i : grid0.Coords) : Fin 2 → Nat :=
  let c12_i32 : BitVec 32 := 12#32
  let v102 : Index := Scalar.indexCast c12_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v103 : Index := Scalar.indexCast v20
  ![12, v103.toNat]
def k0_off15 (i : grid0.Coords) : Fin 2 → Nat :=
  let c13_i32 : BitVec 32 := 13#32
  let v109 : Index := Scalar.indexCast c13_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v110 : Index := Scalar.indexCast v20
  ![13, v110.toNat]
def k0_off16 (i : grid0.Coords) : Fin 2 → Nat :=
  let c14_i32 : BitVec 32 := 14#32
  let v116 : Index := Scalar.indexCast c14_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v117 : Index := Scalar.indexCast v20
  ![14, v117.toNat]
def k0_off17 (i : grid0.Coords) : Fin 2 → Nat :=
  let c15_i32_24 : BitVec 32 := 15#32
  let v123 : Index := Scalar.indexCast c15_i32_24
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v124 : Index := Scalar.indexCast v20
  ![15, v124.toNat]
def k0_off18 (i : grid0.Coords) : Fin 2 → Nat :=
  let c16_i32_26 : BitVec 32 := 16#32
  let v130 : Index := Scalar.indexCast c16_i32_26
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v131 : Index := Scalar.indexCast v20
  ![16, v131.toNat]
def k0_off19 (i : grid0.Coords) : Fin 2 → Nat :=
  let c17_i32 : BitVec 32 := 17#32
  let v137 : Index := Scalar.indexCast c17_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v138 : Index := Scalar.indexCast v20
  ![17, v138.toNat]
def k0_off20 (i : grid0.Coords) : Fin 2 → Nat :=
  let c18_i32 : BitVec 32 := 18#32
  let v144 : Index := Scalar.indexCast c18_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v145 : Index := Scalar.indexCast v20
  ![18, v145.toNat]
def k0_off21 (i : grid0.Coords) : Fin 2 → Nat :=
  let c19_i32 : BitVec 32 := 19#32
  let v151 : Index := Scalar.indexCast c19_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v152 : Index := Scalar.indexCast v20
  ![19, v152.toNat]
def k0_off22 (i : grid0.Coords) : Fin 2 → Nat :=
  let c20_i32 : BitVec 32 := 20#32
  let v158 : Index := Scalar.indexCast c20_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v159 : Index := Scalar.indexCast v20
  ![20, v159.toNat]
def k0_off23 (i : grid0.Coords) : Fin 2 → Nat :=
  let c21_i32 : BitVec 32 := 21#32
  let v165 : Index := Scalar.indexCast c21_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v166 : Index := Scalar.indexCast v20
  ![21, v166.toNat]
def k0_off24 (i : grid0.Coords) : Fin 2 → Nat :=
  let c22_i32 : BitVec 32 := 22#32
  let v172 : Index := Scalar.indexCast c22_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v173 : Index := Scalar.indexCast v20
  ![22, v173.toNat]
def k0_off25 (i : grid0.Coords) : Fin 2 → Nat :=
  let c23_i32 : BitVec 32 := 23#32
  let v179 : Index := Scalar.indexCast c23_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v180 : Index := Scalar.indexCast v20
  ![23, v180.toNat]
def k0_off26 (i : grid0.Coords) : Fin 2 → Nat :=
  let c24_i32 : BitVec 32 := 24#32
  let v186 : Index := Scalar.indexCast c24_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v187 : Index := Scalar.indexCast v20
  ![24, v187.toNat]
def k0_off27 (i : grid0.Coords) : Fin 2 → Nat :=
  let c25_i32 : BitVec 32 := 25#32
  let v193 : Index := Scalar.indexCast c25_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v194 : Index := Scalar.indexCast v20
  ![25, v194.toNat]
def k0_off28 (i : grid0.Coords) : Fin 2 → Nat :=
  let c26_i32 : BitVec 32 := 26#32
  let v200 : Index := Scalar.indexCast c26_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v201 : Index := Scalar.indexCast v20
  ![26, v201.toNat]
def k0_off29 (i : grid0.Coords) : Fin 2 → Nat :=
  let c27_i32 : BitVec 32 := 27#32
  let v207 : Index := Scalar.indexCast c27_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v208 : Index := Scalar.indexCast v20
  ![27, v208.toNat]
def k0_off30 (i : grid0.Coords) : Fin 2 → Nat :=
  let c28_i32 : BitVec 32 := 28#32
  let v214 : Index := Scalar.indexCast c28_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v215 : Index := Scalar.indexCast v20
  ![28, v215.toNat]
def k0_off31 (i : grid0.Coords) : Fin 2 → Nat :=
  let c29_i32 : BitVec 32 := 29#32
  let v221 : Index := Scalar.indexCast c29_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v222 : Index := Scalar.indexCast v20
  ![29, v222.toNat]
def k0_off32 (i : grid0.Coords) : Fin 2 → Nat :=
  let c30_i32 : BitVec 32 := 30#32
  let v228 : Index := Scalar.indexCast c30_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v229 : Index := Scalar.indexCast v20
  ![30, v229.toNat]
def k0_off33 (i : grid0.Coords) : Fin 2 → Nat :=
  let c31_i32 : BitVec 32 := 31#32
  let v235 : Index := Scalar.indexCast c31_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c16_i32 : BitVec 32 := 16#32
  let v19 : BitVec 32 := Scalar.subi v4 c16_i32
  let c0_i32_5 : BitVec 32 := 0#32
  let v20 : BitVec 32 := Scalar.maxsi v19 c0_i32_5
  let v236 : Index := Scalar.indexCast v20
  ![31, v236.toNat]
@[reducible] def k0_t1_loop : Scf.Loop 32 :=
  let c0_i32_43 : BitVec 32 := 0#32
  let c32_i32 : BitVec 32 := 32#32
  let v244 : BitVec 32 := Scalar.addi c0_i32_43 c32_i32
  let c1_i32_44 : BitVec 32 := 1#32
  ⟨c0_i32_43, v244, c1_i32_44⟩
def k0_off34 (i : grid0.Coords) (k0_t1 : Fin k0_t1_loop.trips) : Fin 2 → Nat :=
  let c0_i32_47 : BitVec 32 := 0#32
  let v248 : Index := Scalar.indexCast c0_i32_47
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v249 : Index := Scalar.indexCast v247
  ![0, v249.toNat]
def k0_off35 (i : grid0.Coords) (k0_t1 : Fin k0_t1_loop.trips) : Fin 2 → Nat :=
  let c1_i32_49 : BitVec 32 := 1#32
  let v252 : Index := Scalar.indexCast c1_i32_49
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v253 : Index := Scalar.indexCast v247
  ![1, v253.toNat]
def k0_off36 (i : grid0.Coords) (k0_t1 : Fin k0_t1_loop.trips) : Fin 2 → Nat :=
  let c2_i32_51 : BitVec 32 := 2#32
  let v259 : Index := Scalar.indexCast c2_i32_51
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v260 : Index := Scalar.indexCast v247
  ![2, v260.toNat]
def k0_off37 (i : grid0.Coords) (k0_t1 : Fin k0_t1_loop.trips) : Fin 2 → Nat :=
  let c3_i32_53 : BitVec 32 := 3#32
  let v266 : Index := Scalar.indexCast c3_i32_53
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v267 : Index := Scalar.indexCast v247
  ![3, v267.toNat]
def k0_off38 (i : grid0.Coords) (k0_t1 : Fin k0_t1_loop.trips) : Fin 2 → Nat :=
  let c4_i32_55 : BitVec 32 := 4#32
  let v273 : Index := Scalar.indexCast c4_i32_55
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v274 : Index := Scalar.indexCast v247
  ![4, v274.toNat]
def k0_off39 (i : grid0.Coords) (k0_t1 : Fin k0_t1_loop.trips) : Fin 2 → Nat :=
  let c5_i32_57 : BitVec 32 := 5#32
  let v280 : Index := Scalar.indexCast c5_i32_57
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v281 : Index := Scalar.indexCast v247
  ![5, v281.toNat]
def k0_off40 (i : grid0.Coords) (k0_t1 : Fin k0_t1_loop.trips) : Fin 2 → Nat :=
  let c6_i32_59 : BitVec 32 := 6#32
  let v287 : Index := Scalar.indexCast c6_i32_59
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v288 : Index := Scalar.indexCast v247
  ![6, v288.toNat]
def k0_off41 (i : grid0.Coords) (k0_t1 : Fin k0_t1_loop.trips) : Fin 2 → Nat :=
  let c7_i32_61 : BitVec 32 := 7#32
  let v294 : Index := Scalar.indexCast c7_i32_61
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v295 : Index := Scalar.indexCast v247
  ![7, v295.toNat]
def k0_off42 (i : grid0.Coords) (k0_t1 : Fin k0_t1_loop.trips) : Fin 2 → Nat :=
  let c8_i32_63 : BitVec 32 := 8#32
  let v301 : Index := Scalar.indexCast c8_i32_63
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v302 : Index := Scalar.indexCast v247
  ![8, v302.toNat]
def k0_off43 (i : grid0.Coords) (k0_t1 : Fin k0_t1_loop.trips) : Fin 2 → Nat :=
  let c9_i32_65 : BitVec 32 := 9#32
  let v308 : Index := Scalar.indexCast c9_i32_65
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v309 : Index := Scalar.indexCast v247
  ![9, v309.toNat]
def k0_off44 (i : grid0.Coords) (k0_t1 : Fin k0_t1_loop.trips) : Fin 2 → Nat :=
  let c10_i32_67 : BitVec 32 := 10#32
  let v315 : Index := Scalar.indexCast c10_i32_67
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v316 : Index := Scalar.indexCast v247
  ![10, v316.toNat]
def k0_off45 (i : grid0.Coords) (k0_t1 : Fin k0_t1_loop.trips) : Fin 2 → Nat :=
  let c11_i32_69 : BitVec 32 := 11#32
  let v322 : Index := Scalar.indexCast c11_i32_69
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v323 : Index := Scalar.indexCast v247
  ![11, v323.toNat]
def k0_off46 (i : grid0.Coords) (k0_t1 : Fin k0_t1_loop.trips) : Fin 2 → Nat :=
  let c12_i32_71 : BitVec 32 := 12#32
  let v329 : Index := Scalar.indexCast c12_i32_71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v330 : Index := Scalar.indexCast v247
  ![12, v330.toNat]
def k0_off47 (i : grid0.Coords) (k0_t1 : Fin k0_t1_loop.trips) : Fin 2 → Nat :=
  let c13_i32_73 : BitVec 32 := 13#32
  let v336 : Index := Scalar.indexCast c13_i32_73
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v337 : Index := Scalar.indexCast v247
  ![13, v337.toNat]
def k0_off48 (i : grid0.Coords) (k0_t1 : Fin k0_t1_loop.trips) : Fin 2 → Nat :=
  let c14_i32_75 : BitVec 32 := 14#32
  let v343 : Index := Scalar.indexCast c14_i32_75
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v344 : Index := Scalar.indexCast v247
  ![14, v344.toNat]
def k0_off49 (i : grid0.Coords) (k0_t1 : Fin k0_t1_loop.trips) : Fin 2 → Nat :=
  let c15_i32_77 : BitVec 32 := 15#32
  let v350 : Index := Scalar.indexCast c15_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v351 : Index := Scalar.indexCast v247
  ![15, v351.toNat]
def k0_off50 (i : grid0.Coords) (k0_t1 : Fin k0_t1_loop.trips) : Fin 2 → Nat :=
  let c16_i32_79 : BitVec 32 := 16#32
  let v357 : Index := Scalar.indexCast c16_i32_79
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v358 : Index := Scalar.indexCast v247
  ![16, v358.toNat]
def k0_off51 (i : grid0.Coords) (k0_t1 : Fin k0_t1_loop.trips) : Fin 2 → Nat :=
  let c17_i32_81 : BitVec 32 := 17#32
  let v364 : Index := Scalar.indexCast c17_i32_81
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v365 : Index := Scalar.indexCast v247
  ![17, v365.toNat]
def k0_off52 (i : grid0.Coords) (k0_t1 : Fin k0_t1_loop.trips) : Fin 2 → Nat :=
  let c18_i32_83 : BitVec 32 := 18#32
  let v371 : Index := Scalar.indexCast c18_i32_83
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v372 : Index := Scalar.indexCast v247
  ![18, v372.toNat]
def k0_off53 (i : grid0.Coords) (k0_t1 : Fin k0_t1_loop.trips) : Fin 2 → Nat :=
  let c19_i32_85 : BitVec 32 := 19#32
  let v378 : Index := Scalar.indexCast c19_i32_85
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v379 : Index := Scalar.indexCast v247
  ![19, v379.toNat]
def k0_off54 (i : grid0.Coords) (k0_t1 : Fin k0_t1_loop.trips) : Fin 2 → Nat :=
  let c20_i32_87 : BitVec 32 := 20#32
  let v385 : Index := Scalar.indexCast c20_i32_87
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v386 : Index := Scalar.indexCast v247
  ![20, v386.toNat]
def k0_off55 (i : grid0.Coords) (k0_t1 : Fin k0_t1_loop.trips) : Fin 2 → Nat :=
  let c21_i32_89 : BitVec 32 := 21#32
  let v392 : Index := Scalar.indexCast c21_i32_89
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v393 : Index := Scalar.indexCast v247
  ![21, v393.toNat]
def k0_off56 (i : grid0.Coords) (k0_t1 : Fin k0_t1_loop.trips) : Fin 2 → Nat :=
  let c22_i32_91 : BitVec 32 := 22#32
  let v399 : Index := Scalar.indexCast c22_i32_91
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v400 : Index := Scalar.indexCast v247
  ![22, v400.toNat]
def k0_off57 (i : grid0.Coords) (k0_t1 : Fin k0_t1_loop.trips) : Fin 2 → Nat :=
  let c23_i32_93 : BitVec 32 := 23#32
  let v406 : Index := Scalar.indexCast c23_i32_93
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v407 : Index := Scalar.indexCast v247
  ![23, v407.toNat]
def k0_off58 (i : grid0.Coords) (k0_t1 : Fin k0_t1_loop.trips) : Fin 2 → Nat :=
  let c24_i32_95 : BitVec 32 := 24#32
  let v413 : Index := Scalar.indexCast c24_i32_95
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v414 : Index := Scalar.indexCast v247
  ![24, v414.toNat]
def k0_off59 (i : grid0.Coords) (k0_t1 : Fin k0_t1_loop.trips) : Fin 2 → Nat :=
  let c25_i32_97 : BitVec 32 := 25#32
  let v420 : Index := Scalar.indexCast c25_i32_97
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v421 : Index := Scalar.indexCast v247
  ![25, v421.toNat]
def k0_off60 (i : grid0.Coords) (k0_t1 : Fin k0_t1_loop.trips) : Fin 2 → Nat :=
  let c26_i32_99 : BitVec 32 := 26#32
  let v427 : Index := Scalar.indexCast c26_i32_99
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v428 : Index := Scalar.indexCast v247
  ![26, v428.toNat]
def k0_off61 (i : grid0.Coords) (k0_t1 : Fin k0_t1_loop.trips) : Fin 2 → Nat :=
  let c27_i32_101 : BitVec 32 := 27#32
  let v434 : Index := Scalar.indexCast c27_i32_101
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v435 : Index := Scalar.indexCast v247
  ![27, v435.toNat]
def k0_off62 (i : grid0.Coords) (k0_t1 : Fin k0_t1_loop.trips) : Fin 2 → Nat :=
  let c28_i32_103 : BitVec 32 := 28#32
  let v441 : Index := Scalar.indexCast c28_i32_103
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v442 : Index := Scalar.indexCast v247
  ![28, v442.toNat]
def k0_off63 (i : grid0.Coords) (k0_t1 : Fin k0_t1_loop.trips) : Fin 2 → Nat :=
  let c29_i32_105 : BitVec 32 := 29#32
  let v448 : Index := Scalar.indexCast c29_i32_105
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v449 : Index := Scalar.indexCast v247
  ![29, v449.toNat]
def k0_off64 (i : grid0.Coords) (k0_t1 : Fin k0_t1_loop.trips) : Fin 2 → Nat :=
  let c30_i32_107 : BitVec 32 := 30#32
  let v455 : Index := Scalar.indexCast c30_i32_107
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v456 : Index := Scalar.indexCast v247
  ![30, v456.toNat]
def k0_off65 (i : grid0.Coords) (k0_t1 : Fin k0_t1_loop.trips) : Fin 2 → Nat :=
  let c31_i32_109 : BitVec 32 := 31#32
  let v462 : Index := Scalar.indexCast c31_i32_109
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let v463 : Index := Scalar.indexCast v247
  ![31, v463.toNat]
def k0_off66 (i : grid0.Coords) (k0_t1 : Fin k0_t1_loop.trips) : Fin 2 → Nat :=
  let c0_i32_112 : BitVec 32 := 0#32
  let v470 : Index := Scalar.indexCast c0_i32_112
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v471 : Index := Scalar.indexCast v469
  ![0, v471.toNat]
def k0_off67 (i : grid0.Coords) (k0_t1 : Fin k0_t1_loop.trips) : Fin 2 → Nat :=
  let c1_i32_114 : BitVec 32 := 1#32
  let v474 : Index := Scalar.indexCast c1_i32_114
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v475 : Index := Scalar.indexCast v469
  ![1, v475.toNat]
def k0_off68 (i : grid0.Coords) (k0_t1 : Fin k0_t1_loop.trips) : Fin 2 → Nat :=
  let c2_i32_116 : BitVec 32 := 2#32
  let v481 : Index := Scalar.indexCast c2_i32_116
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v482 : Index := Scalar.indexCast v469
  ![2, v482.toNat]
def k0_off69 (i : grid0.Coords) (k0_t1 : Fin k0_t1_loop.trips) : Fin 2 → Nat :=
  let c3_i32_118 : BitVec 32 := 3#32
  let v488 : Index := Scalar.indexCast c3_i32_118
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v489 : Index := Scalar.indexCast v469
  ![3, v489.toNat]
def k0_off70 (i : grid0.Coords) (k0_t1 : Fin k0_t1_loop.trips) : Fin 2 → Nat :=
  let c4_i32_120 : BitVec 32 := 4#32
  let v495 : Index := Scalar.indexCast c4_i32_120
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v496 : Index := Scalar.indexCast v469
  ![4, v496.toNat]
def k0_off71 (i : grid0.Coords) (k0_t1 : Fin k0_t1_loop.trips) : Fin 2 → Nat :=
  let c5_i32_122 : BitVec 32 := 5#32
  let v502 : Index := Scalar.indexCast c5_i32_122
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v503 : Index := Scalar.indexCast v469
  ![5, v503.toNat]
def k0_off72 (i : grid0.Coords) (k0_t1 : Fin k0_t1_loop.trips) : Fin 2 → Nat :=
  let c6_i32_124 : BitVec 32 := 6#32
  let v509 : Index := Scalar.indexCast c6_i32_124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v510 : Index := Scalar.indexCast v469
  ![6, v510.toNat]
def k0_off73 (i : grid0.Coords) (k0_t1 : Fin k0_t1_loop.trips) : Fin 2 → Nat :=
  let c7_i32_126 : BitVec 32 := 7#32
  let v516 : Index := Scalar.indexCast c7_i32_126
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v517 : Index := Scalar.indexCast v469
  ![7, v517.toNat]
def k0_off74 (i : grid0.Coords) (k0_t1 : Fin k0_t1_loop.trips) : Fin 2 → Nat :=
  let c8_i32_128 : BitVec 32 := 8#32
  let v523 : Index := Scalar.indexCast c8_i32_128
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v524 : Index := Scalar.indexCast v469
  ![8, v524.toNat]
def k0_off75 (i : grid0.Coords) (k0_t1 : Fin k0_t1_loop.trips) : Fin 2 → Nat :=
  let c9_i32_130 : BitVec 32 := 9#32
  let v530 : Index := Scalar.indexCast c9_i32_130
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v531 : Index := Scalar.indexCast v469
  ![9, v531.toNat]
def k0_off76 (i : grid0.Coords) (k0_t1 : Fin k0_t1_loop.trips) : Fin 2 → Nat :=
  let c10_i32_132 : BitVec 32 := 10#32
  let v537 : Index := Scalar.indexCast c10_i32_132
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v538 : Index := Scalar.indexCast v469
  ![10, v538.toNat]
def k0_off77 (i : grid0.Coords) (k0_t1 : Fin k0_t1_loop.trips) : Fin 2 → Nat :=
  let c11_i32_134 : BitVec 32 := 11#32
  let v544 : Index := Scalar.indexCast c11_i32_134
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v545 : Index := Scalar.indexCast v469
  ![11, v545.toNat]
def k0_off78 (i : grid0.Coords) (k0_t1 : Fin k0_t1_loop.trips) : Fin 2 → Nat :=
  let c12_i32_136 : BitVec 32 := 12#32
  let v551 : Index := Scalar.indexCast c12_i32_136
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v552 : Index := Scalar.indexCast v469
  ![12, v552.toNat]
def k0_off79 (i : grid0.Coords) (k0_t1 : Fin k0_t1_loop.trips) : Fin 2 → Nat :=
  let c13_i32_138 : BitVec 32 := 13#32
  let v558 : Index := Scalar.indexCast c13_i32_138
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v559 : Index := Scalar.indexCast v469
  ![13, v559.toNat]
def k0_off80 (i : grid0.Coords) (k0_t1 : Fin k0_t1_loop.trips) : Fin 2 → Nat :=
  let c14_i32_140 : BitVec 32 := 14#32
  let v565 : Index := Scalar.indexCast c14_i32_140
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v566 : Index := Scalar.indexCast v469
  ![14, v566.toNat]
def k0_off81 (i : grid0.Coords) (k0_t1 : Fin k0_t1_loop.trips) : Fin 2 → Nat :=
  let c15_i32_142 : BitVec 32 := 15#32
  let v572 : Index := Scalar.indexCast c15_i32_142
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v573 : Index := Scalar.indexCast v469
  ![15, v573.toNat]
def k0_off82 (i : grid0.Coords) (k0_t1 : Fin k0_t1_loop.trips) : Fin 2 → Nat :=
  let c16_i32_144 : BitVec 32 := 16#32
  let v579 : Index := Scalar.indexCast c16_i32_144
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v580 : Index := Scalar.indexCast v469
  ![16, v580.toNat]
def k0_off83 (i : grid0.Coords) (k0_t1 : Fin k0_t1_loop.trips) : Fin 2 → Nat :=
  let c17_i32_146 : BitVec 32 := 17#32
  let v586 : Index := Scalar.indexCast c17_i32_146
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v587 : Index := Scalar.indexCast v469
  ![17, v587.toNat]
def k0_off84 (i : grid0.Coords) (k0_t1 : Fin k0_t1_loop.trips) : Fin 2 → Nat :=
  let c18_i32_148 : BitVec 32 := 18#32
  let v593 : Index := Scalar.indexCast c18_i32_148
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v594 : Index := Scalar.indexCast v469
  ![18, v594.toNat]
def k0_off85 (i : grid0.Coords) (k0_t1 : Fin k0_t1_loop.trips) : Fin 2 → Nat :=
  let c19_i32_150 : BitVec 32 := 19#32
  let v600 : Index := Scalar.indexCast c19_i32_150
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v601 : Index := Scalar.indexCast v469
  ![19, v601.toNat]
def k0_off86 (i : grid0.Coords) (k0_t1 : Fin k0_t1_loop.trips) : Fin 2 → Nat :=
  let c20_i32_152 : BitVec 32 := 20#32
  let v607 : Index := Scalar.indexCast c20_i32_152
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v608 : Index := Scalar.indexCast v469
  ![20, v608.toNat]
def k0_off87 (i : grid0.Coords) (k0_t1 : Fin k0_t1_loop.trips) : Fin 2 → Nat :=
  let c21_i32_154 : BitVec 32 := 21#32
  let v614 : Index := Scalar.indexCast c21_i32_154
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v615 : Index := Scalar.indexCast v469
  ![21, v615.toNat]
def k0_off88 (i : grid0.Coords) (k0_t1 : Fin k0_t1_loop.trips) : Fin 2 → Nat :=
  let c22_i32_156 : BitVec 32 := 22#32
  let v621 : Index := Scalar.indexCast c22_i32_156
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v622 : Index := Scalar.indexCast v469
  ![22, v622.toNat]
def k0_off89 (i : grid0.Coords) (k0_t1 : Fin k0_t1_loop.trips) : Fin 2 → Nat :=
  let c23_i32_158 : BitVec 32 := 23#32
  let v628 : Index := Scalar.indexCast c23_i32_158
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v629 : Index := Scalar.indexCast v469
  ![23, v629.toNat]
def k0_off90 (i : grid0.Coords) (k0_t1 : Fin k0_t1_loop.trips) : Fin 2 → Nat :=
  let c24_i32_160 : BitVec 32 := 24#32
  let v635 : Index := Scalar.indexCast c24_i32_160
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v636 : Index := Scalar.indexCast v469
  ![24, v636.toNat]
def k0_off91 (i : grid0.Coords) (k0_t1 : Fin k0_t1_loop.trips) : Fin 2 → Nat :=
  let c25_i32_162 : BitVec 32 := 25#32
  let v642 : Index := Scalar.indexCast c25_i32_162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v643 : Index := Scalar.indexCast v469
  ![25, v643.toNat]
def k0_off92 (i : grid0.Coords) (k0_t1 : Fin k0_t1_loop.trips) : Fin 2 → Nat :=
  let c26_i32_164 : BitVec 32 := 26#32
  let v649 : Index := Scalar.indexCast c26_i32_164
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v650 : Index := Scalar.indexCast v469
  ![26, v650.toNat]
def k0_off93 (i : grid0.Coords) (k0_t1 : Fin k0_t1_loop.trips) : Fin 2 → Nat :=
  let c27_i32_166 : BitVec 32 := 27#32
  let v656 : Index := Scalar.indexCast c27_i32_166
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v657 : Index := Scalar.indexCast v469
  ![27, v657.toNat]
def k0_off94 (i : grid0.Coords) (k0_t1 : Fin k0_t1_loop.trips) : Fin 2 → Nat :=
  let c28_i32_168 : BitVec 32 := 28#32
  let v663 : Index := Scalar.indexCast c28_i32_168
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v664 : Index := Scalar.indexCast v469
  ![28, v664.toNat]
def k0_off95 (i : grid0.Coords) (k0_t1 : Fin k0_t1_loop.trips) : Fin 2 → Nat :=
  let c29_i32_170 : BitVec 32 := 29#32
  let v670 : Index := Scalar.indexCast c29_i32_170
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v671 : Index := Scalar.indexCast v469
  ![29, v671.toNat]
def k0_off96 (i : grid0.Coords) (k0_t1 : Fin k0_t1_loop.trips) : Fin 2 → Nat :=
  let c30_i32_172 : BitVec 32 := 30#32
  let v677 : Index := Scalar.indexCast c30_i32_172
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v678 : Index := Scalar.indexCast v469
  ![30, v678.toNat]
def k0_off97 (i : grid0.Coords) (k0_t1 : Fin k0_t1_loop.trips) : Fin 2 → Nat :=
  let c31_i32_174 : BitVec 32 := 31#32
  let v684 : Index := Scalar.indexCast c31_i32_174
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let c128_i32 : BitVec 32 := 128#32
  let c0_i32_0 : BitVec 32 := 0#32
  let v4 : BitVec 32 := Scalar.select v3 c128_i32 c0_i32_0
  let c0_i32_43 : BitVec 32 := 0#32
  let c1_i32_44 : BitVec 32 := 1#32
  let arg7 : BitVec 32 := Scf.iv c0_i32_43 c1_i32_44 k0_t1
  let c32_i32_46 : BitVec 32 := 32#32
  let v246 : BitVec 32 := Scalar.muli arg7 c32_i32_46
  let v247 : BitVec 32 := Scalar.addi v4 v246
  let c16_i32_111 : BitVec 32 := 16#32
  let v469 : BitVec 32 := Scalar.addi v247 c16_i32_111
  let v685 : Index := Scalar.indexCast v469
  ![31, v685.toNat]
def k0_off98 (k0_t1 : Fin k0_t1_loop.trips) : Fin 1 → Nat :=
  let c0_i32_43 : BitVec 32 := 0#32
  let c1_i32_44 : BitVec 32 := 1#32
  let arg7 : BitVec 32 := Scf.iv c0_i32_43 c1_i32_44 k0_t1
  let c32_i32_179 : BitVec 32 := 32#32
  let v702 : BitVec 32 := Scalar.muli arg7 c32_i32_179
  let v703 : Index := Scalar.indexCast v702
  ![v703.toNat]

def k0_chk1 (v15 : IVec S16 32) : Prop :=
  (∀ a x, ((![v15] : Fin 1 → IVec S16 32) a x).toNat < S16.size a) ∧
  (∀ a x, ((![v15] : Fin 1 → IVec S16 32) a x).toNat < S16.size a)
theorem k0_idx1_inb : ∀ (v15 : IVec S16 32) (k0_hw1 : k0_chk1 v15), ∀ a x, ((![v15] : Fin 1 → IVec S16 32) a x).toNat < S16.size a := fun v15 k0_hw1 => k0_hw1.1
theorem k0_idx3_inb : ∀ (v15 : IVec S16 32) (k0_hw1 : k0_chk1 v15), ∀ a x, ((![v15] : Fin 1 → IVec S16 32) a x).toNat < S16.size a := fun v15 k0_hw1 => k0_hw1.2

def k0_chk2 (v11 : IVec S16 32) : Prop :=
  (∀ a x, ((![v11] : Fin 1 → IVec S16 32) a x).toNat < S16.size a) ∧
  (∀ a x, ((![v11] : Fin 1 → IVec S16 32) a x).toNat < S16.size a)
theorem k0_idx2_inb : ∀ (v11 : IVec S16 32) (k0_hw2 : k0_chk2 v11), ∀ a x, ((![v11] : Fin 1 → IVec S16 32) a x).toNat < S16.size a := fun v11 k0_hw2 => k0_hw2.1
theorem k0_idx4_inb : ∀ (v11 : IVec S16 32) (k0_hw2 : k0_chk2 v11), ∀ a x, ((![v11] : Fin 1 → IVec S16 32) a x).toNat < S16.size a := fun v11 k0_hw2 => k0_hw2.2
def k0_off99 (k0_t1 : Fin k0_t1_loop.trips) : Fin 1 → Nat :=
  let c0_i32_43 : BitVec 32 := 0#32
  let c1_i32_44 : BitVec 32 := 1#32
  let arg7 : BitVec 32 := Scf.iv c0_i32_43 c1_i32_44 k0_t1
  let c32_i32_184 : BitVec 32 := 32#32
  let v716 : BitVec 32 := Scalar.muli arg7 c32_i32_184
  let c16_i32_185 : BitVec 32 := 16#32
  let v717 : BitVec 32 := Scalar.addi v716 c16_i32_185
  let v718 : Index := Scalar.indexCast v717
  ![v718.toNat]
def k0_off100 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x32 : Shape := ⟨2, ![32768, 32]⟩
abbrev S_ : Shape := ⟨0, ![]⟩
abbrev S32768 : Shape := ⟨1, ![32768]⟩
abbrev S1 : Shape := ⟨1, ![1]⟩
abbrev S32767 : Shape := ⟨1, ![32767]⟩

abbrev nBuf : Space → Nat
  | .hbm => 19
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768x32, .i32⟩
  | .hbm, ⟨2, _⟩ => ⟨S_, .f32⟩
  | .hbm, ⟨3, _⟩ => ⟨S_, .i32⟩
  | .hbm, ⟨4, _⟩ => ⟨S32768, .f32⟩
  | .hbm, ⟨5, _⟩ => ⟨S32768, .i32⟩
  | .hbm, ⟨6, _⟩ => ⟨S_, .i32⟩
  | .hbm, ⟨7, _⟩ => ⟨S1, .i32⟩
  | .hbm, ⟨8, _⟩ => ⟨S32767, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S32768, .i1⟩
  | .hbm, ⟨15, _⟩ => ⟨S_, .i32⟩
  | .hbm, ⟨16, _⟩ => ⟨S_, .i32⟩
  | .hbm, ⟨17, _⟩ => ⟨S32768, .i32⟩
  | .hbm, ⟨18, _⟩ => ⟨S32768, .i32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Rows.lean ====
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen
open Idealize.ShloMosaic
open Idealize.SL.Sem

variable {F : FTy → Type} [FloatOps F]

/-- Sixteen words of row `v` from column `w` on lie in the tile's scratch. -/
theorem row_inb {v w : Nat} (hv : v < 32) (hw : w + 16 ≤ 1152) : ∀ a : Fin 2, (![v, w] : Fin 2 → Nat) a + S1x16.size a ≤ S32x1152.size a := by
  intro a; fin_cases a
  · show v + 1 ≤ 32; omega
  · show w + 16 ≤ 1152; omega

/-- Sixteen words of row `v`, from column `w` on. -/
abbrev rowRect (v w : Nat) (hv : v < 32) (hw : w + 16 ≤ 1152) : Rect S32x1152 := Rect.unit (s := S32x1152) ![v, w] S1x16.size (row_inb hv hw)

/-- One row's part of the scan: sixteen maxima and the rows they were found in, after one more row. -/
def keep (v : Nat) (x : Vec F S16 .f32) (p : Vec F S16 .f32 × IVec S16 32) : Vec F S16 .f32 × IVec S16 32 :=
  (select (cmpf .ogt x p.1) x p.1, select (cmpf .ogt x p.1) (broadcast S16 (BitVec.ofNat 32 v)) p.2)

variable {c : Fin τ.nSC} {s : Fin τ.nSub}

/-- Sixteen words of row `v` read from the scratch. -/
def readRow (arg4 : Memref sig .scVector .vmem S32x1152 .f32) (v w : Nat) (hv : v < 32) (hw : w + 16 ≤ 1152) :
    Prog (TpuEff nD τ sig (Elt F) Λ₀ (.scVector c s)) (Vec F S16 .f32) := do
  let x : Vec F S1x16 .f32 ← Prog.lift (.load arg4 (rowRect v w hv hw).toLoadRect (View.loadsAt_vmem h_S1x16))
  pure (shapeCast S16 x shapeCasts_S1x16_S16)

/-- The scan over `n` more rows, from row `v` on. -/
def scanRows (arg4 : Memref sig .scVector .vmem S32x1152 .f32) (w : Nat) (hw : w + 16 ≤ 1152) :
    (n v : Nat) → v + n ≤ 32 → Vec F S16 .f32 × IVec S16 32 →
      Prog (TpuEff nD τ sig (Elt F) Λ₀ (.scVector c s)) (Vec F S16 .f32 × IVec S16 32)
  | 0, _, _, p => pure p
  | n + 1, v, h, p => do
    let x ← readRow arg4 v w (by omega) hw
    scanRows arg4 w hw n (v + 1) (by omega) (keep v x p)

/-- The rows where sixteen columns are largest. -/
def argmaxCols (arg4 : Memref sig .scVector .vmem S32x1152 .f32) (w : Nat) (hw : w + 16 ≤ 1152) :
    Prog (TpuEff nD τ sig (Elt F) Λ₀ (.scVector c s)) (IVec S16 32) := do
  let x ← readRow arg4 0 w (by omega) hw
  let p ← scanRows arg4 w hw 31 1 (by omega) (x, broadcast S16 0#32)
  pure p.2

/-- Sixteen words put in the lane scratch and read back at the lanes `ix`. -/
def shuffle (arg6 : Memref sig .scVector .vmem S16 .i32) (x : IVec S16 32) (ix : IVec S16 32)
    (hix : ∀ a k, ((![ix] : Fin 1 → IVec S16 32) a k).toNat < S16.size a) :
    Prog (TpuEff nD τ sig (Elt F) Λ₀ (.scVector c s)) (IVec S16 32) := do
  let _ : Vec F S16 .i32 ← Prog.lift (.load arg6 (Rect.unit (s := S16) ![0] S16.size inb_S16_S16_0).toLoadRect (View.loadsAt_vmem h_S16))
  Prog.lift (.store arg6 (Rect.unit (s := S16) ![0] S16.size inb_S16_S16_0) x Finset.univ (View.stores_vmem_bits_univ h_S16 rfl) (.inl rfl))
  let y : Vec F S16 .i32 ← SparseCore.vectorLoadIdx arg6 ![ix] hix (View.loads_vmem h_S16)
  pure y

/-- The collapse step on sixteen columns: a column keeps its row where it differs from the column before and from zero. -/
def collapse (m0 : IVec S16 1) (cur a b : IVec S16 32) : IVec S16 32 :=
  select (andi (cmpi .ne cur (select m0 a b)) (cmpi .ne cur (broadcast S16 0#32))) cur (broadcast S16 4294967295#32)

/-- Sixteen collapsed columns, written to the tile's output scratch at `off`. -/
def emitCols (arg5 : Memref sig .scVector .vmem S1024 .i32) (arg6 : Memref sig .scVector .vmem S16 .i32)
    (ix0 ix1 : IVec S16 32) (h0 : ∀ a k, ((![ix0] : Fin 1 → IVec S16 32) a k).toNat < S16.size a)
    (h1 : ∀ a k, ((![ix1] : Fin 1 → IVec S16 32) a k).toNat < S16.size a) (m0 : IVec S16 1) (prev cur : IVec S16 32)
    (off : Fin 1 → Nat) (hoff : ∀ a, off a + S16.size a ≤ S1024.size a) :
    Prog (TpuEff nD τ sig (Elt F) Λ₀ (.scVector c s)) PUnit := do
  let a ← shuffle (F := F) arg6 prev ix0 h0
  let b ← shuffle (F := F) arg6 cur ix1 h1
  let _ : Vec F S16 .i32 ← Prog.lift (.load arg5 (Rect.unit (s := S1024) off S16.size hoff).toLoadRect (View.loadsAt_vmem h_S16))
  Prog.lift (.store arg5 (Rect.unit (s := S1024) off S16.size hoff) (collapse m0 cur a b) Finset.univ (View.stores_vmem_bits_univ h_S16 rfl) (.inl rfl))

/-- The first sixteen columns of a trip lie in the tile's scratch. -/
theorem w0_le (i : grid0.Coords) (t : Fin k0_t1_loop.trips) : k0_off34 i t 1 + 16 ≤ 1152 := k0_off34_inb i t 1
/-- The second sixteen columns of a trip lie in it too. -/
theorem w1_le (i : grid0.Coords) (t : Fin k0_t1_loop.trips) : k0_off66 i t 1 + 16 ≤ 1152 := k0_off66_inb i t 1

/-- One trip of the kernel's loop: the rows of two times sixteen columns, and the collapse of both. -/
def trip (i : grid0.Coords) (arg4 : Memref sig .scVector .vmem S32x1152 .f32) (arg5 : Memref sig .scVector .vmem S1024 .i32)
    (arg6 : Memref sig .scVector .vmem S16 .i32) (ix0 ix1 : IVec S16 32) (h0 : k0_chk1 ix0) (h1 : k0_chk2 ix1) (m0 : IVec S16 1)
    (t : Fin k0_t1_loop.trips) (prev : IVec S16 32) : Prog (TpuEff nD τ sig (Elt F) Λ₀ (.scVector c s)) (IVec S16 32) := do
  let a ← argmaxCols arg4 (k0_off34 i t 1) (w0_le i t)
  let b ← argmaxCols arg4 (k0_off66 i t 1) (w1_le i t)
  emitCols arg5 arg6 ix0 ix1 h0.1 h1.1 m0 prev a (k0_off98 t) (k0_off98_inb t)
  emitCols arg5 arg6 ix0 ix1 h0.2 h1.2 m0 a b (k0_off99 t) (k0_off99_inb t)
  pure b

section Same

variable (i : grid0.Coords) (arg2 : Memref sig .scVector .hbm S32x32768 .f32) (harg2 : arg2.IsWhole)
  (arg3 : Memref sig .scVector .hbm S32768 .i32) (harg3 : arg3.IsWhole) (arg4 : Memref sig .scVector .vmem S32x1152 .f32) (harg4 : arg4.IsWhole)
  (arg5 : Memref sig .scVector .vmem S1024 .i32) (harg5 : arg5.IsWhole) (arg6 : Memref sig .scVector .vmem S16 .i32) (harg6 : arg6.IsWhole)
  (r0 r1 : DmaSems sig S_)

set_option maxRecDepth 100000 in
set_option maxHeartbeats 4000000 in
/-- The printed loop region is `trip`: the same reads, stores and gathers in the same order. -/
theorem region_eq (v4 : BitVec 32) (v11 : IVec S16 32) (h2 : k0_chk2 v11) (v15 : IVec S16 32) (h1 : k0_chk1 v15) (v17 : IVec S16 1)
    (t : Fin k0_t1_loop.trips) (prev : IVec S16 32) :
    k0_t1_body (F := F) i arg2 harg2 arg3 harg3 arg4 harg4 arg5 harg5 arg6 harg6 r0 r1 v4 v11 h2 v15 h1 v17 t prev
      = trip i arg4 arg5 arg6 v15 v11 h1 h2 v17 t prev := rfl

/-- The tile's number, as the kernel computes it. -/
abbrev tileWord : BitVec 32 := Scalar.addi (Scalar.muli (BitVec.ofNat 32 (i 1).val) 2#32) (BitVec.ofNat 32 (i 0).val)
/-- Whether the tile is not the first. -/
abbrev notFirst : BitVec 1 := Scalar.cmpi .sgt (tileWord i) 0#32
/-- The lanes' numbers. -/
abbrev lanes : IVec S16 32 := iota .scVector S16 32 [0] iota_S16_d0_w32_scVector
/-- Every lane's left neighbour, lane 0's being itself. -/
abbrev leftLanes : IVec S16 32 := maxsi (subi lanes (broadcast S16 1#32)) (broadcast S16 0#32)
/-- The last lane's number, in every lane. -/
abbrev lastLane : IVec S16 32 := addi (muli lanes (broadcast S16 0#32)) (broadcast S16 15#32)
/-- The mask of lane 0. -/
abbrev laneZero : IVec S16 1 := cmpi .eq lanes (broadcast S16 0#32)

/-- The sixteen columns the seed is read from lie in it. -/
theorem seed_le : k0_off2 i 1 + 16 ≤ 1152 := k0_off2_inb i 1

/-- The kernel's body: the fetch, the checks of the lane vectors, the sixteen columns before the tile's own, the loop, the write-out. -/
def body : Prog (TpuEff nD τ sig (Elt F) Λ₀ (.scVector ((i 0).castLE hcore0) ((i 1).castLE hsub0))) PUnit := do
  Prog.lift (.enqueueDma (arg2.slice (Rect.unit (s := S32x32768) (k0_off1 i) S32x1152.size (k0_off1_inb i)) (fun _ => rfl)) (.here arg4) (.dma r0.sem)
    (View.wordExact_bits rfl) harg4.wordExact ⟨Or.inl rfl, trivial⟩)
  Prog.lift (.waitDma2 r0.sem (arg2.slice (Rect.unit (s := S32x32768) (k0_off1 i) S32x1152.size (k0_off1_inb i)) (fun _ => rfl)) arg4
    (View.wordExact_bits rfl) harg4.wordExact)
  let h2 ← Prog.lift (TpuEff.assume (k0_chk2 leftLanes) (k0_chk2.dec leftLanes))
  let h1 ← Prog.lift (TpuEff.assume (k0_chk1 lastLane) (k0_chk1.dec lastLane))
  let p ← argmaxCols arg4 (k0_off2 i 1) (seed_le i)
  let _ : IVec S16 32 ← Scf.Loop.for k0_t1_loop k0_t1_ok (Scalar.select (notFirst i) p (broadcast S16 4294967295#32))
    (trip i arg4 arg5 arg6 lastLane leftLanes h1.down h2.down laneZero)
  Prog.lift (.enqueueDma arg5 (.here (arg3.slice (Rect.unit (s := S32768) (k0_off100 i) S1024.size (k0_off100_inb i)) (fun _ => rfl))) (.dma r1.sem)
    harg5.wordExact (View.wordExact_bits rfl) ⟨Or.inl rfl, trivial⟩)
  Prog.lift (.waitDma2 r1.sem arg5 (arg3.slice (Rect.unit (s := S32768) (k0_off100 i) S1024.size (k0_off100_inb i)) (fun _ => rfl))
    harg5.wordExact (View.wordExact_bits rfl))
  pure ⟨⟩

/-- The printed loop region, whatever its first operand, is `trip` as a function. -/
theorem region_fun (v4 : BitVec 32) (v11 : IVec S16 32) (h2 : k0_chk2 v11) (v15 : IVec S16 32) (h1 : k0_chk1 v15) (v17 : IVec S16 1) :
    k0_t1_body (F := F) i arg2 harg2 arg3 harg3 arg4 harg4 arg5 harg5 arg6 harg6 r0 r1 v4 v11 h2 v15 h1 v17
      = trip i arg4 arg5 arg6 v15 v11 h1 h2 v17 :=
  funext fun t => funext fun prev => region_eq i arg2 harg2 arg3 harg3 arg4 harg4 arg5 harg5 arg6 harg6 r0 r1 v4 v11 h2 v15 h1 v17 t prev

set_option maxRecDepth 100000 in
set_option maxHeartbeats 4000000 in
/-- The printed body is `body`. -/
theorem body_eq :
    cc0__sc_body (F := F) i arg2 harg2 arg3 harg3 arg4 harg4 arg5 harg5 arg6 harg6 r0 r1
      = body i arg2 arg3 arg4 harg4 arg5 harg5 arg6 r0 r1 := by
  rw [cc0__sc_body_eq_skeleton]; unfold cc0__sc_body_skel
  simp only [region_fun]
  rfl

end Same

end Cert.Proof.Rows
-- ==== Proof.Values.lean ====
module

public import proofs.«01_k».proof.Proof.Rows
public import Idealize.ShloMosaic.Lib.ValueIdxCore
public import Idealize.ShloMosaic.Lib.Pipeline.Value

/-!
The words the tiles compute, as functions of the transposed emission: the row found largest in a column, the row of the column
sixteen places before, and the collapsed column. No program runs here.
-/

@[expose] public section

noncomputable section

namespace Cert.Proof.Values

open Cert.KernelIdeal Cert.KernelIdeal.Gen Cert.Proof.Rows
open Idealize.ShloMosaic Idealize.ShloMosaic.ValueIdx

variable {F : FTy → Type} [FloatOps F]

/-- The largest of `x 0, …, x n` met by a scan that moves on a strictly greater value only, and the place it was met. -/
def best (x : Nat → Elt F .f32) : Nat → Elt F .f32 × BitVec 32
  | 0 => (x 0, 0#32)
  | n + 1 => (Scalar.select (FloatOps.cmpf .ogt (x (n + 1)) (best x n).1) (x (n + 1)) (best x n).1,
      Scalar.select (FloatOps.cmpf .ogt (x (n + 1)) (best x n).1) (BitVec.ofNat 32 (n + 1)) (best x n).2)

variable {N : Nat} [NeZero N]

/-- The word at row `v` and column `n`. -/
def cell (f : Vec F ⟨2, ![32, N]⟩ .f32) (v n : Nat) : Elt F .f32 := f (ix2 (Fin.ofNat 32 v) (Fin.ofNat N n))

/-- The row found largest in column `n`. -/
def ids (f : Vec F ⟨2, ![32, N]⟩ .f32) (n : Nat) : BitVec 32 := (best (fun v => cell f v n) 31).2

/-- The row found largest sixteen columns before `n`, and all ones where there is no such column. -/
def lag (f : Vec F ⟨2, ![32, N]⟩ .f32) (n : Nat) : BitVec 32 := if n < 16 then 4294967295#32 else ids f (n - 16)

/-- The decoded word of column `n`. -/
def decoded (f : Vec F ⟨2, ![32, N]⟩ .f32) (n : Nat) : BitVec 32 :=
  Scalar.select (IntOp.andi (IntOp.cmpi .ne (ids f n) (lag f (n + 15))) (IntOp.cmpi .ne (ids f n) 0#32)) (ids f n) 4294967295#32

/-- What the whole kernel writes: every column decoded. -/
def outF (f : Vec F S32x32768 .f32) : Vec F S32768 .i32 := fun j => decoded f (j 0).val

/-! ## The scan -/

/-- The words of row `v` from column `w` on, lane by lane. -/
def rowVec (f : Vec F S32x1152 .f32) (v w : Nat) : Vec F S16 .f32 := fun l => cell f v (w + (l 0).val)

/-- The scan's two vectors after rows `0, …, n`. -/
def scanned (f : Vec F S32x1152 .f32) (w n : Nat) : Vec F S16 .f32 × IVec S16 32 :=
  (fun l => (best (fun v => cell f v (w + (l 0).val)) n).1, fun l => (best (fun v => cell f v (w + (l 0).val)) n).2)

/-- The scan starts at row 0. -/
theorem scanned_zero (f : Vec F S32x1152 .f32) (w : Nat) : (rowVec f 0 w, broadcast S16 0#32) = scanned f w 0 := rfl

/-- One more row takes the scan one further. -/
theorem keep_scanned (f : Vec F S32x1152 .f32) (w n : Nat) :
    keep (n + 1) (rowVec f (n + 1) w) (scanned f w n) = scanned f w (n + 1) := rfl

/-- A load of sixteen words of row `v`, its unit axis dropped, is the row's words lane by lane. -/
theorem shapeCast_row (f : Vec F S32x1152 .f32) (v w : Nat) (hv : v < 32) (hw : w + 16 ≤ 1152) :
    shapeCast S16 (fun x => f ((rowRect v w hv hw).idx x)) shapeCasts_S1x16_S16 = rowVec f v w := by
  funext l
  have hl : (l 0).val < 16 := (l 0).isLt
  rw [shapeCast_apply _ _ l (ix2 (0 : Fin 1) (⟨(l 0).val, hl⟩ : Fin 16))
    (by
      rw [Shape.rowMajor_val_two, Shape.rowMajor_val_one]
      show 0 * 16 + (l 0).val = (l 0).val
      omega)]
  unfold rowVec cell
  refine congrArg f (funext fun a => Fin.ext ?_)
  match a with
  | ⟨0, _⟩ =>
    show v + 1 * 0 = v % 32
    rw [Nat.mod_eq_of_lt hv]; omega
  | ⟨1, _⟩ =>
    show w + 1 * (l 0).val = (w + (l 0).val) % 1152
    rw [Nat.mod_eq_of_lt (by omega)]; omega

/-! ## The lane vectors -/

/-- The last lane's number is 15 in every lane. -/
theorem lastLane_toNat (l : S16.Idx) : (lastLane l).toNat = 15 := by
  rw [eq_ix1 l]; exact (by decide +kernel : ∀ n : Fin 16, (lastLane (ix1 n)).toNat = 15) _

/-- A lane's left neighbour is one less, and lane 0's is lane 0. -/
theorem leftLanes_toNat (l : S16.Idx) : (leftLanes l).toNat = (l 0).val - 1 := by
  rw [eq_ix1 l]; exact (by decide +kernel : ∀ n : Fin 16, (leftLanes (ix1 n)).toNat = n.val - 1) _

/-- The mask of lane 0 is set there and nowhere else. -/
theorem laneZero_eq (l : S16.Idx) : laneZero l = if (l 0).val = 0 then 1#1 else 0#1 := by
  rw [eq_ix1 l]; exact (by decide +kernel : ∀ n : Fin 16, laneZero (ix1 n) = if n.val = 0 then 1#1 else 0#1) _

/-- The last lane is a lane. -/
theorem lastLane_inb : ∀ a k, ((![lastLane] : Fin 1 → IVec S16 32) a k).toNat < S16.size a := by
  intro a k; obtain rfl : a = 0 := Fin.fin_one_eq_zero a
  show (lastLane k).toNat < 16
  rw [lastLane_toNat]; omega

/-- A left neighbour is a lane. -/
theorem leftLanes_inb : ∀ a k, ((![leftLanes] : Fin 1 → IVec S16 32) a k).toNat < S16.size a := by
  intro a k; obtain rfl : a = 0 := Fin.fin_one_eq_zero a
  show (leftLanes k).toNat < 16
  have := (k 0).isLt
  have : (k 0).val < 16 := this
  rw [leftLanes_toNat]; omega

/-- The kernel's check of the last lane holds. -/
theorem chk1 : k0_chk1 lastLane := ⟨lastLane_inb, lastLane_inb⟩
/-- The kernel's check of the left neighbours holds. -/
theorem chk2 : k0_chk2 leftLanes := ⟨leftLanes_inb, leftLanes_inb⟩

/-- Sixteen words read at the lanes `ix`. -/
def gathered (x ix : IVec S16 32) : IVec S16 32 := fun l => x (ix1 (Fin.ofNat 16 (ix l).toNat))

/-- The gather by lane numbers in range. -/
theorem loadIdx_eq (x ix : IVec S16 32) (h : ∀ a k, ((![ix] : Fin 1 → IVec S16 32) a k).toNat < S16.size a) :
    (loadIdx (F := F) (e := .i32) x ![ix] h : IVec S16 32) = gathered x ix := by
  funext l
  unfold loadIdx gathered
  refine congrArg x (funext fun a => Fin.ext ?_)
  obtain rfl : a = 0 := Fin.fin_one_eq_zero a
  exact (Nat.mod_eq_of_lt (h 0 l)).symm

/-- The collapse of sixteen columns: with the lag of every lane carried in and the lanes' rows found, it gives the decoded words. -/
theorem collapse_eq (f : Vec F ⟨2, ![32, N]⟩ .f32) (n0 : Nat) :
    collapse laneZero (fun l => ids f (n0 + (l 0).val)) (gathered (fun l => lag f (n0 + (l 0).val)) lastLane)
        (gathered (fun l => ids f (n0 + (l 0).val)) leftLanes)
      = fun l => decoded f (n0 + (l 0).val) := by
  funext l
  have hl : (l 0).val < 16 := (l 0).isLt
  have hp : Scalar.select (laneZero l) (gathered (fun l => lag f (n0 + (l 0).val)) lastLane l)
      (gathered (fun l => ids f (n0 + (l 0).val)) leftLanes l) = lag f (n0 + (l 0).val + 15) := by
    rw [laneZero_eq]
    unfold gathered
    rw [lastLane_toNat, leftLanes_toNat]
    by_cases h : (l 0).val = 0
    · rw [if_pos h, select_one, h]; rfl
    · rw [if_neg h, select_zero]
      unfold lag
      rw [if_neg (by omega)]
      refine congrArg (ids f) ?_
      show n0 + ((l 0).val - 1) % 16 = _
      rw [Nat.mod_eq_of_lt (by omega)]; omega
  show Scalar.select (IntOp.andi (IntOp.cmpi .ne _ (Scalar.select (laneZero l) _ _)) _) _ _ = _
  rw [hp]; rfl

/-! ## The tile's window -/

/-- The tile's number. -/
abbrev wid (i : grid0.Coords) : Nat := 2 * (i 1).val + (i 0).val
/-- The columns a tile fetches before its own. -/
abbrev halo (i : grid0.Coords) : Nat := if 2 * (i 1).val + (i 0).val > 0 then 128 else 0
/-- The tile's first column. -/
abbrev start (i : grid0.Coords) : Nat := 2048 * (i 1).val + 1024 * (i 0).val
/-- The first column the tile fetches. -/
abbrev from_ (i : grid0.Coords) : Nat := start i - halo i

/-- A tile's columns lie in the array, and those it fetches before them too. -/
theorem window (i : grid0.Coords) : start i + 1024 ≤ 32768 ∧ halo i ≤ start i ∧ (halo i = 0 → start i = 0) ∧ (halo i ≠ 0 → halo i = 128) := by
  have h0 : (i 0).val < 2 := (i 0).isLt
  have h1 : (i 1).val < 16 := (i 1).isLt
  unfold start halo
  split <;> omega

/-- The fetch starts at row 0 and the tile's window. -/
theorem off1_eq : ∀ i : grid0.Coords, k0_off1 i = ![0, from_ i] := by decide +kernel
/-- The sixteen columns read before the loop. -/
theorem off2_eq : ∀ i : grid0.Coords, k0_off2 i = ![0, halo i - 16] := by decide +kernel
/-- The bit that chooses between them and all ones. -/
theorem notFirst_eq : ∀ i : grid0.Coords, notFirst i = if halo i = 0 then 0#1 else 1#1 := by decide +kernel

/-- The window of the transposed emission a tile fetches. -/
def fetched (t : Vec F S32x32768 .f32) (w : Nat) : Vec F S32x1152 .f32 := fun j => t (ix2 (j 0) (Fin.ofNat 32768 (w + (j 1).val)))

/-- The row found largest in a fetched column is that of the column fetched. -/
theorem ids_fetched (t : Vec F S32x32768 .f32) (w n : Nat) (hn : n < 1152) : ids (N := 1152) (fetched t w) n = ids (N := 32768) t (w + n) := by
  unfold ids cell fetched
  refine congrArg (fun x => (best x 31).2) (funext fun v => ?_)
  show t (ix2 (Fin.ofNat 32 v) (Fin.ofNat 32768 (w + n % 1152))) = _
  rw [Nat.mod_eq_of_lt hn]

/-- The words carried into the loop: the lag of the tile's first sixteen columns. -/
theorem seed_eq (t : Vec F S32x32768 .f32) (i : grid0.Coords) :
    Scalar.select (notFirst i) (scanned (fetched t (from_ i)) (k0_off2 i 1) 31).2 (broadcast S16 4294967295#32)
      = fun l => lag (N := 32768) t (start i + (l 0).val) := by
  obtain ⟨h1, h2, h3, h4⟩ := window i
  rw [notFirst_eq]
  funext l
  have hl : (l 0).val < 16 := (l 0).isLt
  by_cases h : halo i = 0
  · rw [if_pos h, select_zero]
    unfold lag
    rw [if_pos (by rw [h3 h]; omega)]; rfl
  · have h' := h4 h
    rw [if_neg h, select_one]
    unfold lag
    rw [if_neg (by omega)]
    have e : k0_off2 i 1 = halo i - 16 := by rw [off2_eq]; rfl
    rw [e]
    show ids (N := 1152) (fetched t (from_ i)) (halo i - 16 + (l 0).val) = _
    rw [ids_fetched _ _ _ (by omega)]
    refine congrArg (ids t) ?_
    unfold from_; omega

/-- The rows found in sixteen of the tile's columns. -/
theorem rows_eq (t : Vec F S32x32768 .f32) (i : grid0.Coords) (n : Nat) (hn : n + 16 ≤ 1024) :
    (scanned (fetched t (from_ i)) (halo i + n) 31).2 = fun l => ids (N := 32768) t (start i + n + (l 0).val) := by
  obtain ⟨h1, h2, h3, h4⟩ := window i
  funext l
  have hl : (l 0).val < 16 := (l 0).isLt
  have h128 : halo i ≤ 128 := by unfold halo; split <;> omega
  show ids (N := 1152) (fetched t (from_ i)) (halo i + n + (l 0).val) = _
  rw [ids_fetched _ _ _ (by omega)]
  refine congrArg (ids t) ?_
  unfold from_; omega

/-- The rows found in sixteen columns are the lag of the sixteen after them. -/
theorem lag_next (f : Vec F ⟨2, ![32, N]⟩ .f32) (n : Nat) :
    (fun l : S16.Idx => ids f (n + (l 0).val)) = fun l => lag f (n + 16 + (l 0).val) := by
  funext l
  unfold lag
  rw [if_neg (by omega)]
  refine congrArg (ids f) ?_
  omega

end Cert.Proof.Values
-- ==== Proof.Steps.lean ====
module

public import proofs.«01_k».proof.Proof.Values
public import Idealize.ShloMosaic.Lib.WritesUnit

/-!
What each piece of the kernel's body does to a tile's three scratches, and the words it returns: the read of a row, the scan of
sixteen columns, the gather through the lane scratch, the collapse and its store, and one trip of the loop.
-/

@[expose] public section

noncomputable section

namespace Cert.Proof.Steps

open Cert.KernelIdeal Cert.KernelIdeal.Gen Cert.Proof.Rows Cert.Proof.Values
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UU : Type := UH × Counters

local notation "𝕄" => MT nD τ sig (HIx 1) (Elt F) ℕ UU ℕ

local notation "aW" => (Memref.whole Cert.KernelIdeal.cc0_scratch0 : Memref Cert.KernelIdeal.sig Kind.scVector Space.vmem Cert.KernelIdeal.S32x1152 EltTy.f32)
local notation "bW" => (Memref.whole Cert.KernelIdeal.cc0_scratch1 : Memref Cert.KernelIdeal.sig Kind.scVector Space.vmem Cert.KernelIdeal.S1024 EltTy.i32)
local notation "cW" => (Memref.whole Cert.KernelIdeal.cc0_scratch2 : Memref Cert.KernelIdeal.sig Kind.scVector Space.vmem Cert.KernelIdeal.S16 EltTy.i32)

variable (d : Dev nD) (c : Fin τ.nSC) (s : Fin τ.nSub)

/-- The tile's scratch of fetched columns, holding `f`. -/
abbrev aPts (f : Vec F S32x1152 .f32) : sProp 𝕄 := (aW).view.loc (V d c s) ↦{fullShare} f
/-- The tile's scratch of decoded columns, holding `g`. -/
abbrev bPts (g : Vec F S1024 .i32) : sProp 𝕄 := (bW).view.loc (V d c s) ↦{fullShare} g
/-- The tile's lane scratch, holding `h`. -/
abbrev cPts (h : Vec F S16 .i32) : sProp 𝕄 := (cW).view.loc (V d c s) ↦{fullShare} h

/-- A program of the tile, run to `Q`. -/
abbrev runs {α : Type} (p : Prog (TpuEff nD τ sig (Elt F) Λ₀ (.scVector c s)) α) (Q : α → sProp 𝕄) : sProp 𝕄 :=
  wp frame (wpE (defs₀ (F := F)) Variants.none (V d c s) none) Set.univ p Q

/-- A load of a buffer held whole gives the words read there. -/
theorem run_load {sh : Shape} {e : EltTy} {sp : CoreSpace} {b : Memref sig .scVector sp sh e} {r : LoadRect sh} {hl : b.view.LoadsAt r}
    (f : Buf (Elt F) (b.view.loc (V d c s))) (Q : (r.shape.Idx → Elt F e) → sProp 𝕄) :
    iprop((b.view.loc (V d c s) ↦{fullShare} f) ∗ ((b.view.loc (V d c s) ↦{fullShare} f) -∗ Q (b.view.readAt (Elt F) r f)))
      ⊢ runs d c s (Prog.lift (.load b r hl)) Q := by
  iintro ⟨H, HQ⟩
  iapply (wp_load Variants.none (V d c s) none Set.univ (m := b) (r := r) (S := Finset.univ) (Finset.subset_univ _)) $$ H
  iintro H
  rw [wp_ret]
  iapply (fupd_intro (PROP := sProp 𝕄))
  iapply HQ $$ H

/-- A store into a buffer held whole leaves the words written there. -/
theorem run_store {sh : Shape} {e : EltTy} {sp : CoreSpace} {b : Memref sig .scVector sp sh e} {r : Rect sh} {w : r.shape.Idx → Elt F e}
    {hx : (b.access r).Stores Finset.univ} {hm : (Finset.univ : Finset r.shape.Idx) = Finset.univ ∨ ∀ a, r.stride a = 1}
    (f : Buf (Elt F) ((b.access r).loc (V d c s))) (Q : PUnit → sProp 𝕄) :
    iprop(((b.access r).loc (V d c s) ↦{fullShare} f)
        ∗ (((b.access r).loc (V d c s) ↦{fullShare} ((b.access r).write (Elt F) f w Finset.univ)) -∗ Q ⟨⟩))
      ⊢ runs d c s (Prog.lift (.store b r w Finset.univ hx hm)) Q := by
  iintro ⟨H, HQ⟩
  iapply (wp_store Variants.none (V d c s) none Set.univ (m := b) (r := r) (S := Finset.univ) (Finset.subset_univ _)) $$ H
  iintro H
  rw [wp_ret]
  iapply (fupd_intro (PROP := sProp 𝕄))
  iapply HQ $$ H

/-- The read of a row gives the row's words. -/
theorem run_readRow (f : Vec F S32x1152 .f32) (v w : Nat) (hv : v < 32) (hw : w + 16 ≤ 1152) (Q : Vec F S16 .f32 → sProp 𝕄) :
    iprop(aPts d c s f ∗ (aPts d c s f -∗ Q (rowVec f v w))) ⊢ runs d c s (readRow aW v w hv hw) Q := by
  unfold readRow runs
  rw [wp_bind]
  iintro ⟨H, HQ⟩
  iapply (run_load d c s (b := aW) f _)
  isplitl [H]; · iexact H
  iintro H
  rw [wp_pure, show (shapeCast S16 ((aW).view.readAt (Elt F) (rowRect v w hv hw).toLoadRect f) shapeCasts_S1x16_S16) = rowVec f v w from shapeCast_row f v w hv hw]
  iapply (fupd_intro (PROP := sProp 𝕄))
  iapply HQ $$ H

/-- The scan over `n` more rows takes the scanned vectors `n` rows further. -/
theorem run_scanRows (f : Vec F S32x1152 .f32) (w : Nat) (hw : w + 16 ≤ 1152) (Q : Vec F S16 .f32 × IVec S16 32 → sProp 𝕄) :
    ∀ (n v : Nat) (h : v + 1 + n ≤ 32),
      iprop(aPts d c s f ∗ (aPts d c s f -∗ Q (scanned f w (v + n)))) ⊢ runs d c s (scanRows aW w hw n (v + 1) h (scanned f w v)) Q := by
  intro n
  induction n with
  | zero =>
    intro v h
    unfold scanRows runs
    rw [wp_pure]
    iintro ⟨H, HQ⟩
    iapply (fupd_intro (PROP := sProp 𝕄))
    iapply HQ $$ H
  | succ n ih =>
    intro v h
    unfold scanRows runs
    rw [wp_bind]
    iintro ⟨H, HQ⟩
    iapply (run_readRow d c s f (v + 1) w _ hw _)
    isplitl [H]; · iexact H
    iintro H
    rw [keep_scanned]
    iapply (ih (v + 1) _)
    isplitl [H]; · iexact H
    rw [show v + 1 + n = v + (n + 1) by omega]
    iexact HQ

/-- The rows found largest in sixteen columns. -/
theorem run_argmaxCols (f : Vec F S32x1152 .f32) (w : Nat) (hw : w + 16 ≤ 1152) (Q : IVec S16 32 → sProp 𝕄) :
    iprop(aPts d c s f ∗ (aPts d c s f -∗ Q (scanned f w 31).2)) ⊢ runs d c s (argmaxCols aW w hw) Q := by
  unfold argmaxCols runs
  rw [wp_bind]
  iintro ⟨H, HQ⟩
  iapply (run_readRow d c s f 0 w _ hw _)
  isplitl [H]; · iexact H
  iintro H
  rw [wp_bind, scanned_zero]
  iapply (run_scanRows d c s f w hw _ 31 0 _)
  isplitl [H]; · iexact H
  iintro H
  rw [wp_pure]
  iapply (fupd_intro (PROP := sProp 𝕄))
  iapply HQ $$ H

/-- A store over the whole lane scratch leaves the words stored. -/
theorem write_lanes (h : Vec F S16 .i32) (x : IVec S16 32) :
    (((cW).access (Rect.unit (s := S16) ![0] S16.size inb_S16_S16_0)).write (Elt F) h x Finset.univ : Vec F S16 .i32) = x :=
  funext fun y => View.read_writes_cons_unit_of_mem (Val := Elt F) (cW).view h (off' := ![0]) inb_S16_S16_0 x [] y y rfl
    fun a => by obtain rfl : a = 0 := Fin.fin_one_eq_zero a; exact (Nat.zero_add _).symm

/-- Sixteen words put in the lane scratch and read back at the lanes `ix`. -/
theorem run_shuffle (h : Vec F S16 .i32) (x ix : IVec S16 32) (hix : ∀ a k, ((![ix] : Fin 1 → IVec S16 32) a k).toNat < S16.size a) (Q : IVec S16 32 → sProp 𝕄) :
    iprop(cPts d c s h ∗ (cPts d c s x -∗ Q (gathered x ix))) ⊢ runs d c s (shuffle (F := F) cW x ix hix) Q := by
  unfold shuffle runs
  rw [wp_bind]
  iintro ⟨H, HQ⟩
  iapply (run_load d c s (b := cW) h _)
  isplitl [H]; · iexact H
  iintro H
  rw [wp_bind]
  iapply (run_store d c s (b := cW) h _)
  isplitl [H]; · iexact H
  iintro H
  rw [write_lanes]
  unfold SparseCore.vectorLoadIdx
  iapply (wp_load_rect Variants.none (V d c s) none Set.univ (m := cW) (r := Rect.whole S16) (S := Finset.univ) (Finset.subset_univ _)) $$ H
  iintro H
  rw [show (loadIdx (((cW).access (Rect.whole S16)).read (Elt F) x) ![ix] hix : IVec S16 32) = gathered x ix from
    (congrArg (fun y => loadIdx (F := F) (e := .i32) y ![ix] hix) (Memref.read_access_whole (Elt F) cc0_scratch2 x)).trans (loadIdx_eq (F := F) x ix hix), wp_ret]
  iapply (fupd_intro (PROP := sProp 𝕄))
  iapply HQ $$ H

/-! ## The output scratch -/

/-- The output scratch with its first `n` columns decoded, `st` the first of them in the array, over what it held before. -/
def sofar (t : Vec F S32x32768 .f32) (st : Nat) (g : Vec F S1024 .i32) (n : Nat) : Vec F S1024 .i32 :=
  fun y => if (y 0).val < n then decoded (N := 32768) t (st + (y 0).val) else g y

/-- A store of the next sixteen decoded columns decodes sixteen more. -/
theorem write_sofar (t : Vec F S32x32768 .f32) (st : Nat) (g : Vec F S1024 .i32) (n : Nat) (off : Fin 1 → Nat)
    (hoff : ∀ a, off a + S16.size a ≤ S1024.size a) (hn : off = ![n]) :
    (((bW).access (Rect.unit (s := S1024) off S16.size hoff)).write (Elt F) (sofar t st g n)
        (fun l => decoded (N := 32768) t (st + n + (l 0).val)) Finset.univ : Vec F S1024 .i32) = sofar t st g (n + 16) := by
  funext y
  refine (View.read_writes_cons_unit (Val := Elt F) (bW).view (sofar t st g n) (off' := ![n]) hoff
    (fun l => decoded (N := 32768) t (st + n + (l 0).val)) [] y hn).trans ?_
  by_cases h : n ≤ (y 0).val ∧ (y 0).val < n + 16
  · rw [dif_pos (by intro a; obtain rfl : a = 0 := Fin.fin_one_eq_zero a; exact h)]
    unfold sofar
    rw [if_pos h.2]
    refine congrArg (decoded t) ?_
    show st + n + ((y 0).val - n) = st + (y 0).val
    omega
  · rw [dif_neg (fun hall => h (hall 0))]
    show sofar t st g n y = _
    unfold sofar
    by_cases h' : (y 0).val < n
    · rw [if_pos h', if_pos (by omega)]
    · rw [if_neg h', if_neg (by omega)]

/-- The collapse of sixteen columns, stored: sixteen more columns of the output scratch are decoded. -/
theorem run_emitCols (t : Vec F S32x32768 .f32) (st : Nat) (g : Vec F S1024 .i32) (n : Nat) (h : Vec F S16 .i32) (prev cur : IVec S16 32)
    (hprev : prev = fun l => lag (N := 32768) t (st + n + (l 0).val)) (hcur : cur = fun l => ids (N := 32768) t (st + n + (l 0).val))
    (h0 : ∀ a k, ((![lastLane] : Fin 1 → IVec S16 32) a k).toNat < S16.size a)
    (h1 : ∀ a k, ((![leftLanes] : Fin 1 → IVec S16 32) a k).toNat < S16.size a)
    (off : Fin 1 → Nat) (hoff : ∀ a, off a + S16.size a ≤ S1024.size a) (hn : off = ![n]) (Q : PUnit → sProp 𝕄) :
    iprop(bPts d c s (sofar t st g n) ∗ cPts d c s h ∗ (bPts d c s (sofar t st g (n + 16)) -∗ cPts d c s cur -∗ Q ⟨⟩))
      ⊢ runs d c s (emitCols bW cW lastLane leftLanes h0 h1 laneZero prev cur off hoff) Q := by
  unfold emitCols runs
  rw [wp_bind]
  iintro ⟨Hb, Hc, HQ⟩
  iapply (run_shuffle d c s h prev lastLane h0 _)
  isplitl [Hc]; · iexact Hc
  iintro Hc
  rw [wp_bind]
  iapply (run_shuffle d c s prev cur leftLanes h1 _)
  isplitl [Hc]; · iexact Hc
  iintro Hc
  rw [wp_bind]
  iapply (run_load d c s (b := bW) (sofar t st g n) _)
  isplitl [Hb]; · iexact Hb
  iintro Hb
  iapply (run_store d c s (b := bW) (sofar t st g n) _)
  isplitl [Hb]; · iexact Hb
  iintro Hb
  rw [show collapse laneZero cur (gathered prev lastLane) (gathered cur leftLanes) = fun l => decoded (N := 32768) t (st + n + (l 0).val) by
    rw [hprev, hcur]; exact collapse_eq (N := 32768) t (st + n)]
  ihave Hb' := (show (((bW).access (Rect.unit (s := S1024) off S16.size hoff)).loc (V d c s) ↦{fullShare}
      (((bW).access (Rect.unit (s := S1024) off S16.size hoff)).write (Elt F) (sofar t st g n)
        (fun l : S16.Idx => decoded (N := 32768) t (st + n + (l 0).val)) Finset.univ) : sProp 𝕄) ⊢ bPts d c s (sofar t st g (n + 16)) from
    Entails.of_eq (congrArg (fun x => bPts d c s x) (write_sofar t st g n off hoff hn))) $$ Hb
  iapply HQ $$ Hb' Hc

/-- One trip of the loop: thirty-two more columns decoded, the last sixteen's rows carried on. -/
theorem run_trip (t : Vec F S32x32768 .f32) (i : grid0.Coords) (g : Vec F S1024 .i32) (k : Fin k0_t1_loop.trips) (h : Vec F S16 .i32)
    (h1 : k0_chk1 lastLane) (h2 : k0_chk2 leftLanes) (Q : IVec S16 32 → sProp 𝕄) :
    iprop(aPts d c s (fetched t (from_ i)) ∗ bPts d c s (sofar t (start i) g (32 * k.val)) ∗ cPts d c s h
        ∗ (∀ h', aPts d c s (fetched t (from_ i)) -∗ bPts d c s (sofar t (start i) g (32 * (k.val + 1))) -∗ cPts d c s h'
            -∗ Q (fun l => lag (N := 32768) t (start i + 32 * (k.val + 1) + (l 0).val))))
      ⊢ runs d c s (trip i aW bW cW lastLane leftLanes h1 h2 laneZero k (fun l => lag (N := 32768) t (start i + 32 * k.val + (l 0).val))) Q := by
  have hk : k.val < 32 := k.isLt
  unfold trip runs
  rw [wp_bind]
  iintro ⟨Ha, Hb, Hc, HQ⟩
  iapply (run_argmaxCols d c s (fetched t (from_ i)) (k0_off34 i k 1) _ _)
  isplitl [Ha]; · iexact Ha
  iintro Ha
  rw [wp_bind]
  iapply (run_argmaxCols d c s (fetched t (from_ i)) (k0_off66 i k 1) _ _)
  isplitl [Ha]; · iexact Ha
  iintro Ha
  rw [show k0_off34 i k 1 = halo i + 32 * k.val from congrFun (k0_off34_eq i k) 1,
    show k0_off66 i k 1 = halo i + (32 * k.val + 16) from congrFun (k0_off66_eq i k) 1,
    rows_eq t i (32 * k.val) (by omega), rows_eq t i (32 * k.val + 16) (by omega), wp_bind]
  iapply (run_emitCols d c s t (start i) g (32 * k.val) h _ _ rfl rfl _ _ _ _ (k0_off98_eq k) _)
  isplitl [Hb]; · iexact Hb
  isplitl [Hc]; · iexact Hc
  iintro Hb Hc
  rw [wp_bind]
  iapply (run_emitCols d c s t (start i) g (32 * k.val + 16) _ _ _
    (by rw [lag_next]; simp only [Nat.add_assoc]) (by simp only [Nat.add_assoc]) _ _ _ _ (k0_off99_eq k) _)
  isplitl [Hb]; · iexact Hb
  isplitl [Hc]; · iexact Hc
  iintro Hb Hc
  rw [wp_pure, lag_next, show start i + (32 * k.val + 16) + 16 = start i + 32 * (k.val + 1) by omega,
    show 32 * k.val + 16 + 16 = 32 * (k.val + 1) by omega]
  iapply (fupd_intro (PROP := sProp 𝕄))
  iapply HQ $$ Ha Hb Hc

end Cert.Proof.Steps
-- ==== Proof.Compute.lean ====
module

public import proofs.«01_k».proof.Proof.Steps
public import Idealize.ShloMosaic.Lib.Scf

/-!
The kernel's body in three parts — the fetch, the computation on the scratches, the write-out — and the run of the middle part:
it leaves the output scratch holding the tile's decoded columns.
-/

@[expose] public section

noncomputable section

namespace Cert.Proof.Compute

open Cert.KernelIdeal Cert.KernelIdeal.Gen Cert.Proof.Rows Cert.Proof.Values Cert.Proof.Steps
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

local notation "aW" => (Memref.whole Cert.KernelIdeal.cc0_scratch0 : Memref Cert.KernelIdeal.sig Kind.scVector Space.vmem Cert.KernelIdeal.S32x1152 EltTy.f32)
local notation "bW" => (Memref.whole Cert.KernelIdeal.cc0_scratch1 : Memref Cert.KernelIdeal.sig Kind.scVector Space.vmem Cert.KernelIdeal.S1024 EltTy.i32)
local notation "cW" => (Memref.whole Cert.KernelIdeal.cc0_scratch2 : Memref Cert.KernelIdeal.sig Kind.scVector Space.vmem Cert.KernelIdeal.S16 EltTy.i32)

section Parts

variable (i : grid0.Coords) (arg2 : Memref sig .scVector .hbm S32x32768 .f32)
  (arg3 : Memref sig .scVector .hbm S32768 .i32) (arg4 : Memref sig .scVector .vmem S32x1152 .f32) (harg4 : arg4.IsWhole)
  (arg5 : Memref sig .scVector .vmem S1024 .i32) (harg5 : arg5.IsWhole) (arg6 : Memref sig .scVector .vmem S16 .i32)
  (r0 r1 : DmaSems sig S_)

/-- The fetch of the tile's window, and the wait for it. -/
def fetch : Prog (TpuEff nD τ sig (Elt F) Λ₀ (.scVector ((i 0).castLE hcore0) ((i 1).castLE hsub0))) PUnit := do
  Prog.lift (.enqueueDma (arg2.slice (Rect.unit (s := S32x32768) (k0_off1 i) S32x1152.size (k0_off1_inb i)) (fun _ => rfl)) (.here arg4) (.dma r0.sem)
    (View.wordExact_bits rfl) harg4.wordExact ⟨Or.inl rfl, trivial⟩)
  Prog.lift (.waitDma2 r0.sem (arg2.slice (Rect.unit (s := S32x32768) (k0_off1 i) S32x1152.size (k0_off1_inb i)) (fun _ => rfl)) arg4
    (View.wordExact_bits rfl) harg4.wordExact)

/-- The computation on the tile's scratches. -/
def compute : Prog (TpuEff nD τ sig (Elt F) Λ₀ (.scVector ((i 0).castLE hcore0) ((i 1).castLE hsub0))) (IVec S16 32) := do
  let h2 ← Prog.lift (TpuEff.assume (k0_chk2 leftLanes) (k0_chk2.dec leftLanes))
  let h1 ← Prog.lift (TpuEff.assume (k0_chk1 lastLane) (k0_chk1.dec lastLane))
  let p ← argmaxCols arg4 (k0_off2 i 1) (seed_le i)
  Scf.Loop.for k0_t1_loop k0_t1_ok (Scalar.select (notFirst i) p (broadcast S16 4294967295#32))
    (trip i arg4 arg5 arg6 lastLane leftLanes h1.down h2.down laneZero)

/-- The write-out of the tile's columns, and the wait for it. -/
def writeOut : Prog (TpuEff nD τ sig (Elt F) Λ₀ (.scVector ((i 0).castLE hcore0) ((i 1).castLE hsub0))) PUnit := do
  Prog.lift (.enqueueDma arg5 (.here (arg3.slice (Rect.unit (s := S32768) (k0_off100 i) S1024.size (k0_off100_inb i)) (fun _ => rfl))) (.dma r1.sem)
    harg5.wordExact (View.wordExact_bits rfl) ⟨Or.inl rfl, trivial⟩)
  Prog.lift (.waitDma2 r1.sem arg5 (arg3.slice (Rect.unit (s := S32768) (k0_off100 i) S1024.size (k0_off100_inb i)) (fun _ => rfl))
    harg5.wordExact (View.wordExact_bits rfl))
  pure ⟨⟩

/-- The body is its three parts. -/
theorem body_parts : Rows.body (F := F) i arg2 arg3 arg4 harg4 arg5 harg5 arg6 r0 r1
    = (do fetch i arg2 arg4 harg4 r0; let _ ← compute i arg4 arg5 arg6; writeOut i arg3 arg5 harg5 r1) := by
  unfold Rows.body fetch compute writeOut
  simp only [bind_assoc]

end Parts

variable (d : Dev nD) (i : grid0.Coords)

/-- The tile's SparseCore and its place there. -/
abbrev cV (i : grid0.Coords) : Fin τ.nSC := (i 0).castLE hcore0
abbrev jV (i : grid0.Coords) : Fin τ.nSub := (i 1).castLE hsub0

/-- The loop's invariant: before trip `k` the window is as fetched, `32 * k` columns are decoded, and the words carried are the lag
    of the sixteen columns to come. -/
def inv (t : Vec F S32x32768 .f32) (g : Vec F S1024 .i32) (k : Nat) (acc : IVec S16 32) : sProp 𝕄 :=
  iprop(⌜acc = fun l => lag (N := 32768) t (start i + 32 * k + (l 0).val)⌝ ∗ aPts d (cV i) (jV i) (fetched t (from_ i))
    ∗ bPts d (cV i) (jV i) (sofar t (start i) g (32 * k)) ∗ ∃ h, cPts d (cV i) (jV i) h)

/-- The scan before the loop and the loop decode the tile's 1024 columns. -/
theorem run_loop (t : Vec F S32x32768 .f32) (g : Vec F S1024 .i32) (h : Vec F S16 .i32) (h1 : k0_chk1 lastLane) (h2 : k0_chk2 leftLanes)
    (Q : IVec S16 32 → sProp 𝕄) :
    iprop(aPts d (cV i) (jV i) (fetched t (from_ i)) ∗ bPts d (cV i) (jV i) g ∗ cPts d (cV i) (jV i) h
        ∗ (∀ x h', aPts d (cV i) (jV i) (fetched t (from_ i)) -∗ bPts d (cV i) (jV i) (sofar t (start i) g 1024) -∗ cPts d (cV i) (jV i) h' -∗ Q x))
      ⊢ runs d (cV i) (jV i) (argmaxCols aW (k0_off2 i 1) (seed_le i) >>= fun p =>
          Scf.Loop.for k0_t1_loop k0_t1_ok (Scalar.select (notFirst i) p (broadcast S16 4294967295#32)) (trip i aW bW cW lastLane leftLanes h1 h2 laneZero)) Q := by
  have hb : ∀ (k : Fin k0_t1_loop.trips) (acc : IVec S16 32), inv d i t g k.val acc
      ⊢ wp frame (wpE (defs₀ (F := F)) Variants.none (V d (cV i) (jV i)) none) Set.univ (trip i aW bW cW lastLane leftLanes h1 h2 laneZero k acc)
          (inv d i t g (k.val + 1)) := by
    intro k acc
    unfold inv
    iintro ⟨%e, Ha, Hb, %h, Hc⟩
    subst e
    iapply (run_trip d (cV i) (jV i) t i g k h h1 h2 _)
    isplitl [Ha]; · iexact Ha
    isplitl [Hb]; · iexact Hb
    isplitl [Hc]; · iexact Hc
    iintro %h' Ha Hb Hc
    isplitr; · ipureintro; rfl
    isplitl [Ha]; · iexact Ha
    isplitl [Hb]; · iexact Hb
    iexists h'; iexact Hc
  unfold runs
  iintro ⟨Ha, Hb, Hc, HQ⟩
  rw [wp_bind]
  iapply (run_argmaxCols d (cV i) (jV i) (fetched t (from_ i)) (k0_off2 i 1) _ _)
  isplitl [Ha]; · iexact Ha
  iintro Ha
  rw [seed_eq t i]
  iapply (Scf.wp_for _ _ _ _ _ _ _ _ _ (inv d i t g) hb)
  unfold inv
  isplitl [Ha Hb Hc]
  · isplitr; · ipureintro; rfl
    isplitl [Ha]; · iexact Ha
    isplitl [Hb]; · iexact Hb
    iexists h; iexact Hc
  iintro %acc ⟨-, Ha, Hb, %h', Hc⟩
  rw [show 32 * Scf.trips k0_t1_loop.lb k0_t1_loop.ub k0_t1_loop.st = 1024 by decide]
  iapply HQ $$ Ha Hb Hc

/-- The computation decodes the tile's 1024 columns. -/
theorem run_compute (t : Vec F S32x32768 .f32) (g : Vec F S1024 .i32) (h : Vec F S16 .i32) (Q : IVec S16 32 → sProp 𝕄) :
    iprop(aPts d (cV i) (jV i) (fetched t (from_ i)) ∗ bPts d (cV i) (jV i) g ∗ cPts d (cV i) (jV i) h
        ∗ (∀ x h', aPts d (cV i) (jV i) (fetched t (from_ i)) -∗ bPts d (cV i) (jV i) (sofar t (start i) g 1024) -∗ cPts d (cV i) (jV i) h' -∗ Q x))
      ⊢ runs d (cV i) (jV i) (compute i aW bW cW) Q := by
  unfold compute runs
  iintro H
  iapply (wp_assume Variants.none (V d (cV i) (jV i)) none Set.univ chk2)
  iapply (wp_assume Variants.none (V d (cV i) (jV i)) none Set.univ chk1)
  iapply (run_loop d i t g h chk1 chk2 Q)
  iexact H

end Cert.Proof.Compute
-- ==== Proof.Copies.lean ====
module

public import proofs.«01_k».proof.Proof.Compute
public import Idealize.ShloMosaic.Lib.ShareLeaves

/-!
The two copies of a tile: the fetch of its window of the transposed emission, and the write-out of its decoded columns.
-/

@[expose] public section

noncomputable section

namespace Cert.Proof.Copies

open Cert.KernelIdeal Cert.KernelIdeal.Gen Cert.Proof.Rows Cert.Proof.Values Cert.Proof.Steps Cert.Proof.Compute
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S32x32768 EltTy.f32)
local notation "oV" => (Memref.whole Cert.KernelIdeal.main_v1_scv : Memref Cert.KernelIdeal.sig Kind.scVector Space.hbm Cert.KernelIdeal.S32768 EltTy.i32)
local notation "aW" => (Memref.whole Cert.KernelIdeal.cc0_scratch0 : Memref Cert.KernelIdeal.sig Kind.scVector Space.vmem Cert.KernelIdeal.S32x1152 EltTy.f32)
local notation "bW" => (Memref.whole Cert.KernelIdeal.cc0_scratch1 : Memref Cert.KernelIdeal.sig Kind.scVector Space.vmem Cert.KernelIdeal.S1024 EltTy.i32)

variable (d : Dev nD) (i : grid0.Coords)

/-- The tile's window of the transposed emission, as the fetch addresses it. -/
abbrev xWin (i : grid0.Coords) : Memref sig .scVector .hbm S32x1152 .f32 :=
  (xV).slice (Rect.unit (s := S32x32768) (k0_off1 i) S32x1152.size (k0_off1_inb i)) (fun _ => rfl)
/-- The tile's columns of the result, as the write-out addresses them. -/
abbrev oWin (i : grid0.Coords) : Memref sig .scVector .hbm S1024 .i32 :=
  (oV).slice (Rect.unit (s := S32768) (k0_off100 i) S1024.size (k0_off100_inb i)) (fun _ => rfl)

/-- What the fetch reads is the tile's window. -/
theorem read_xWin (t : Vec F S32x32768 .f32) : ((xWin i).view.read (Elt F) t : Vec F S32x1152 .f32) = fetched t (from_ i) := by
  obtain ⟨h1, h2, h3, h4⟩ := window i
  have hf : from_ i + 1152 ≤ 32768 := by
    unfold from_
    by_cases h : halo i = 0
    · rw [h3 h]; omega
    · rw [h4 h] at h2 ⊢; omega
  funext j
  have hj : (j 1).val < 1152 := (j 1).isLt
  refine (View.read_apply _ _).trans ((cast_eq _ _).trans ?_)
  unfold fetched
  refine congrArg t (funext fun a => Fin.ext ?_)
  match a with
  | ⟨0, _⟩ =>
    show k0_off1 i 0 + 1 * (j 0).val = (j 0).val
    rw [show k0_off1 i 0 = 0 from congrFun (off1_eq i) 0]; omega
  | ⟨1, _⟩ =>
    show k0_off1 i 1 + 1 * (j 1).val = (from_ i + (j 1).val) % 32768
    rw [show k0_off1 i 1 = from_ i from congrFun (off1_eq i) 1, Nat.mod_eq_of_lt (by omega)]; omega

set_option maxHeartbeats 1000000 in
/-- The fetch leaves the tile's window in its scratch. -/
theorem run_fetch (q : PosShare TreeShare) (t : Vec F S32x32768 .f32) (fa : Vec F S32x1152 .f32) (O : CellTallies nD τ sig (HIx 1)) (W : Waits sig (HIx 1))
    (Q : PUnit → sProp 𝕄) :
    iprop(Transfers.MayWaits (V d (cV i) (jV i)) (default : HIx 1) O ∗ ((xV).view.loc (V d (cV i) (jV i)) ↦{q} t) ∗ aPts d (cV i) (jV i) fa
        ∗ semVal (V d (cV i) (jV i), SemLoc.dma cc0_scoped0.sem) 0 ∗ owes (V d (cV i) (jV i)) O W
        ∗ (((xV).view.loc (V d (cV i) (jV i)) ↦{q} t) -∗ aPts d (cV i) (jV i) (fetched t (from_ i))
          -∗ semVal (V d (cV i) (jV i), SemLoc.dma cc0_scoped0.sem) 0
          -∗ owes (V d (cV i) (jV i)) O (insert (SemLoc.dma cc0_scoped0.sem, (default : HIx 1)) W) -∗ Q ⟨⟩))
      ⊢ runs d (cV i) (jV i) (fetch i xV aW (Memref.isWhole_whole _) cc0_scoped0) Q := by
  unfold fetch runs
  iintro ⟨Hmw, Hx, Ha, Hs, HO, HQ⟩
  sl_exec
  sl_step
  rw [View.write_whole_univ, show run_fetch.sl.dma0 i t = fetched t (from_ i) from read_xWin i t]
  iapply HQ $$ Hx Ha [Hs] [HO]
  · iexact Hs
  · iexact HO

/-- What the write-out leaves in the tile's columns of the result is the decoded words. -/
theorem write_oWin (t : Vec F S32x32768 .f32) (fo : Vec F S32768 .i32) (g : Vec F S1024 .i32) (y : S32768.Idx) (hy : y ∈ (oWin i).view.set) :
    ((oWin i).view.writes (Elt F) fo [⟨Rect.whole S1024, sofar t (start i) g 1024⟩] : Vec F S32768 .i32) y = outF t y := by
  rw [← View.write_univ_eq_writes_whole (oWin i).view fo [] (sofar t (start i) g 1024), View.writes_nil]
  obtain ⟨x, -, rfl⟩ := Finset.mem_map.mp hy
  have hx : (x 0).val < 1024 := (x 0).isLt
  refine (View.write_emb_of_mem (v := (oWin i).view) (Val := Elt F) fo (sofar t (start i) g 1024) (Finset.mem_univ x)).trans ((cast_eq _ _).trans ?_)
  unfold sofar outF
  rw [if_pos hx]
  refine congrArg (decoded t) ?_
  show _ = k0_off100 i 0 + 1 * (x 0).val
  rw [show k0_off100 i 0 = start i from congrFun (k0_off100_eq i) 0]; omega

set_option maxHeartbeats 1000000 in
/-- The write-out leaves the decoded words in the tile's columns of the result. -/
theorem run_writeOut (t : Vec F S32x32768 .f32) (g : Vec F S1024 .i32) (fo : Vec F S32768 .i32) (O : CellTallies nD τ sig (HIx 1)) (W : Waits sig (HIx 1))
    (Q : PUnit → sProp 𝕄) :
    iprop(Transfers.MayWaits (V d (cV i) (jV i)) (default : HIx 1) O ∗ ((oWin i).view.loc (V d (cV i) (jV i)) ↦[(oWin i).view.set]{fullShare} fo)
        ∗ bPts d (cV i) (jV i) (sofar t (start i) g 1024)
        ∗ semVal (V d (cV i) (jV i), SemLoc.dma cc0_scoped1.sem) 0 ∗ owes (V d (cV i) (jV i)) O W
        ∗ (((oWin i).view.loc (V d (cV i) (jV i)) ↦[(oWin i).view.set]{fullShare} outF t) -∗ bPts d (cV i) (jV i) (sofar t (start i) g 1024)
          -∗ semVal (V d (cV i) (jV i), SemLoc.dma cc0_scoped1.sem) 0
          -∗ owes (V d (cV i) (jV i)) O (insert (SemLoc.dma cc0_scoped1.sem, (default : HIx 1)) W) -∗ Q ⟨⟩))
      ⊢ runs d (cV i) (jV i) (writeOut i oV bW (Memref.isWhole_whole _) cc0_scoped1) Q := by
  unfold writeOut runs
  iintro ⟨Hmw, Ho, Hb, Hs, HO, HQ⟩
  sl_exec
  sl_step
  ihave Ho' := (show ((oWin i).view.loc (V d (cV i) (jV i)) ↦[(oWin i).view.set]{fullShare}
      (oWin i).view.writes (Elt F) fo [⟨Rect.whole S1024, run_writeOut.sl.dma0 i t g⟩] : sProp 𝕄)
      ⊢ (oWin i).view.loc (V d (cV i) (jV i)) ↦[(oWin i).view.set]{fullShare} outF t from
    Entails.of_eq (pointsTo_congr fun y hy => write_oWin i t fo g y hy)) $$ Ho
  iapply HQ $$ Ho' Hb [Hs] [HO]
  · iexact Hs
  · iexact HO

end Cert.Proof.Copies
-- ==== Proof.Launch.lean ====
module

public import proofs.«01_k».proof.Proof.Copies
public import Idealize.ShloMosaic.Lib.StableHlo.Run

/-!
The whole program: the host's transpose, and the one call, whose 32 tiles each take a share of the transposed emission and their
own 1024 columns of the result. At the end the result holds every column decoded, the emission is as at the launch, and every
semaphore counter reads zero.
-/

@[expose] public section

noncomputable section

namespace Cert.Proof.Launch

open Cert.KernelIdeal Cert.KernelIdeal.Gen Cert.Proof.Rows Cert.Proof.Values Cert.Proof.Steps Cert.Proof.Compute Cert.Proof.Copies
open Idealize.ShloMosaic Idealize.ShloMosaic.ValueIdx
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ShareLeaves (leaf pointsTo_leaves)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are none of the kernel's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds, the left factor of the certificate's state. -/
abbrev EH : Emb UH (MT nD τ sig (HIx 1) (Elt F) ℕ UU ℕ) := embL

variable (m : (ℓ : Loc nD τ sig) → Buf (Elt F) ℓ) (ρ : Dev nD → PrngReg)

local notation "xV" => (Memref.whole Cert.KernelIdeal.main_v0_scv : Memref Cert.KernelIdeal.sig Kind.scVector Space.hbm Cert.KernelIdeal.S32x32768 EltTy.f32)
local notation "oV" => (Memref.whole Cert.KernelIdeal.main_v1_scv : Memref Cert.KernelIdeal.sig Kind.scVector Space.hbm Cert.KernelIdeal.S32768 EltTy.i32)
local notation "aW" => (Memref.whole Cert.KernelIdeal.cc0_scratch0 : Memref Cert.KernelIdeal.sig Kind.scVector Space.vmem Cert.KernelIdeal.S32x1152 EltTy.f32)
local notation "bW" => (Memref.whole Cert.KernelIdeal.cc0_scratch1 : Memref Cert.KernelIdeal.sig Kind.scVector Space.vmem Cert.KernelIdeal.S1024 EltTy.i32)
local notation "cW" => (Memref.whole Cert.KernelIdeal.cc0_scratch2 : Memref Cert.KernelIdeal.sig Kind.scVector Space.vmem Cert.KernelIdeal.S16 EltTy.i32)

/-- The emission, its transpose, and the result, on device `d`. -/
abbrev pLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1

/-- The transposed emission. -/
def tT (d : Dev nD) : Vec F S32x32768 .f32 := transpose S32x32768 [1, 0] (m (pLoc d) : Vec F S32768x32 .f32) transposes_S32768x32_S32x32768_1_0

variable [FloatOps F]

/-- The decoded columns. -/
def outT (d : Dev nD) : Vec F S32768 .i32 := outF (tT m d)

/-! ## What each tile takes and brings back -/

theorem odiv : 32 ∣ S32768.size 0 := ⟨1024, rfl⟩
/-- Tile `w`'s columns of the result. -/
abbrev oSet (w : Fin 32) : Finset S32768.Idx := ((oV).view.slice (Rect.part (s := S32768) (a₀ := 0) odiv w)).set

/-- Tile `w`'s share of the transposed emission. -/
abbrev xShare (d : Dev nD) (w : Fin 32) : sProp 𝕄 := xLoc d ↦{leaf 5 fullShare w} tT m d
/-- What tile `w` takes: its share, and its columns of the result at their launch contents. -/
abbrev before (d : Dev nD) (w : Fin 32) : sProp 𝕄 := iprop(xShare m d w ∗ oLoc d ↦[oSet w]{fullShare} m (oLoc d))
/-- What it brings back: its share, and its columns decoded. -/
abbrev after (d : Dev nD) (w : Fin 32) : sProp 𝕄 := iprop(xShare m d w ∗ oLoc d ↦[oSet w]{fullShare} outT m d)

/-- The number of the tile at place `s` of SparseCore `c`. -/
def tile (c s : ℕ) : Fin 32 := Fin.ofNat 32 (2 * s + c)

/-- What the one call carries: to each SparseCore what its sixteen tiles take, and back what they bring. -/
def P : (K (F := F)).Pay (nD := nD) (Val := Elt F) (Name := ℕ) (U := UU) where
  st := fun _ d c => bigSep Finset.univ fun s : Fin 16 => before m d (tile c.val s.val)
  dn := fun _ d c => bigSep Finset.univ fun s : Fin 16 => after m d (tile c.val s.val)
  go := fun _ d c s => before m d (tile c.val s.val)
  td := fun _ d c s => after m d (tile c.val s.val)
  x := fun _ _ => iprop(emp)

instance P_storable : (P (F := F) m).IsStorable where
  st _ d c := by unfold P; infer_instance
  dn _ d c := by unfold P; infer_instance
  go _ d c s := by unfold P; infer_instance
  td _ d c s := by unfold P; infer_instance

/-! ## The tile -/

section Tile

variable (d : Dev nD) (L : grid0.Coords)

/-- The tile's number from its coordinates. -/
abbrev tileOf (L : grid0.Coords) : Fin 32 := tile (L 0).val (L 1).val

theorem tileOf_val : (tileOf L).val = 2 * (L 1).val + (L 0).val := by
  have h0 : (L 0).val < 2 := (L 0).isLt
  have h1 : (L 1).val < 16 := (L 1).isLt
  exact Nat.mod_eq_of_lt (by omega)

/-- The rectangle the tile writes is its part of the result's 32 equal parts. -/
theorem rect_oWin : Rect.unit (s := S32768) (k0_off100 L) S1024.size (k0_off100_inb L) = Rect.part (s := S32768) (a₀ := 0) odiv (tileOf L) := by
  unfold Rect.part Rect.block
  congr 1 <;> funext a
  · obtain rfl : a = 0 := Fin.fin_one_eq_zero a
    rw [k0_off100_eq]
    simp only [Shape.partIx, Shape.partSize, tileOf_val]
    simp
    omega
  · obtain rfl : a = 0 := Fin.fin_one_eq_zero a
    simp [Shape.partSize]

/-- The columns the tile writes are its columns of the result. -/
theorem set_oWin : (oWin L).view.set = oSet (tileOf L) := by
  show ((oV).view.slice (Rect.unit (s := S32768) (k0_off100 L) S1024.size (k0_off100_inb L))).set = _
  exact rect_oWin L ▸ rfl

theorem pts_oWin (f : Buf (Elt F) (oLoc d)) :
    ((oWin L).view.loc (V d (cV L) (jV L)) ↦[(oWin L).view.set]{fullShare} f : sProp 𝕄) = oLoc d ↦[oSet (tileOf L)]{fullShare} f := by
  rw [set_oWin]

abbrev cell0 (d : Dev nD) (c : Fin τ.nSC) (s : Fin τ.nSub) : GSem nD τ sig := (V d c s, .dma cc0_scoped0.sem)
abbrev cell1 (d : Dev nD) (c : Fin τ.nSC) (s : Fin τ.nSub) : GSem nD τ sig := (V d c s, .dma cc0_scoped1.sem)

/-- The two copies' semaphores are among the tile's own. -/
theorem ownSems0_V :
    (ownSems0 (V d (cV L) (jV L)) : sProp 𝕄)
      = iprop(semVal (cell0 d (cV L) (jV L)) 0 ∗ semVal (cell1 d (cV L) (jV L)) 0
          ∗ bigSep (((ownCells (V d (cV L) (jV L))).erase (cell0 d (cV L) (jV L))).erase (cell1 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩)]

/-- The tile's own buffer `b`, as the launch names it. -/
abbrev own (c : Fin τ.nSC) (s : Fin τ.nSub) (b : Ref sig .scVector) : DevRef τ sig := (Proc.scVector c s).devRef b

/-- The three scratches are among the tile's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase (own (cV L) (jV L) cc0_scratch0)).erase (own (cV L) (jV L) cc0_scratch1)).erase
              (own (cV L) (jV L) cc0_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := own (cV L) (jV L) cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := own (cV L) (jV L) cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := own (cV L) (jV L) cc0_scratch2) rfl⟩⟩)]

/-- A tile's run: its window fetched, its columns decoded, and written out. -/
theorem tile_body (hF : (K (F := F)).Facts) (O : CellTallies nD τ sig (HIx 1)) (W : Waits sig (HIx 1)) (hO : ∀ g, O g none = 0) :
    iprop(levAts (K (F := F)).L (K (F := F)).lev ∗ emp ∗ before m d (tileOf L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) aW (Memref.isWhole_whole _)
            bW (Memref.isWhole_whole _) cW (Memref.isWhole_whole _) cc0_scoped0 cc0_scoped1)
          fun _ => iprop(after m d (tileOf L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, body_parts, wp_bind]
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, ⟨%fc, Hc⟩, Hbufs⟩, ⟨Hs0, Hs1, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oWin (F := F) d L _).symm) $$ Ho
  iapply (run_fetch d L (leaf 5 fullShare (tileOf L)) (tT m d) fa O W _)
  isplitr; · iexact Hmw
  isplitl [Hx]; · iexact Hx
  isplitl [Ha]; · iexact Ha
  isplitl [Hs0]; · iexact Hs0
  isplitl [HO]; · iexact HO
  iintro Hx Ha Hs0 HO
  rw [wp_bind]
  iapply (run_compute d L (tT m d) fb fc _)
  isplitl [Ha]; · iexact Ha
  isplitl [Hb]; · iexact Hb
  isplitl [Hc]; · iexact Hc
  iintro %_ %fc' Ha Hb Hc
  iapply (run_writeOut d L (tT m d) fb (m (oLoc d)) O _ _)
  isplitr; · iexact Hmw
  isplitl [Ho']; · iexact Ho'
  isplitl [Hb]; · iexact Hb
  isplitl [Hs1]; · iexact Hs1
  isplitl [HO]; · iexact HO
  iintro Ho Hb Hs1 HO
  isplitl [Hx Ho]
  · isplitl [Hx]; · iexact Hx
    iapply (Entails.of_eq (pts_oWin (F := F) d L _)); iexact Ho
  isplitl [Ha Hb Hc Hbufs]
  · isplitl [Ha]; · iexists _; iexact Ha
    isplitl [Hb]; · iexists _; iexact Hb
    isplitl [Hc]; · iexists _; iexact Hc
    iexact Hbufs
  isplitl [Hs0 Hs1 Hsems]
  · isplitl [Hs0]; · iexact Hs0
    isplitl [Hs1]; · iexact Hs1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The tile's obligation -/

/-- The grid point of the tile at place `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call. -/
theorem defs₀_vector (c : Fin τ.nSC) (s : Fin τ.nSub) :
    defs₀ (F := F) (.scVector c s) 0 ()
      = SparseCore.onTile hcore0 hsub0 (fun c s => cc0__sc_body (coordsV c s) xV (Memref.isWhole_whole _) oV (Memref.isWhole_whole _)
          aW (Memref.isWhole_whole _) bW (Memref.isWhole_whole _) cW (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, run from what it takes, brings back what it should. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

/-! ## The arrays split among the tiles and join -/

theorem oSet_eq (w : Fin 32) : oSet w = (Rect.part (s := S32768) (a₀ := 0) odiv w).set := by
  show ((View.whole (main_v1_scv : Ref sig .scVector)).slice (Rect.part (s := S32768) (a₀ := 0) odiv w)).set = _
  rw [View.set_slice]; exact Finset.map_refl

/-- The result is the tiles' columns together. -/
theorem result_cols (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun i _ j _ h => by rw [oSet_eq, oSet_eq]; exact Rect.part_disjoint odiv h,
    (Finset.biUnion_congr rfl fun i _ => oSet_eq i).trans (Rect.biUnion_part odiv)]

set_option maxRecDepth 4096 in
/-- The transposed emission is the tiles' shares together. -/
theorem shares (d : Dev nD) (f : Buf (Elt F) (xLoc d)) :
    (xLoc d ↦{fullShare} f : sProp 𝕄) = bigSep Finset.univ fun w : Fin 32 => xLoc d ↦{leaf 5 fullShare w} f :=
  pointsTo_leaves Finset.univ f 5 fullShare

/-- The numbering of the tiles: place `s` of SparseCore `c` is `2 * s + c`. -/
def tiles : Fin 2 × Fin 16 ≃ Fin 32 := (Equiv.prodComm _ _).trans finProdFinEquiv

theorem tiles_eq (c : Fin 2) (s : Fin 16) : tiles (c, s) = tile c.val s.val := by
  apply Fin.ext
  show c.val + 2 * s.val = (2 * s.val + c.val) % 32
  omega

/-- What every tile of both SparseCores holds is what the 32 tiles hold. -/
theorem bigSep_tiles (Φ : Fin 32 → sProp 𝕄) :
    (bigSep Finset.univ fun c : Fin 2 => bigSep Finset.univ fun s : Fin 16 => Φ (tile c.val s.val)) = bigSep Finset.univ Φ := by
  rw [bigSep_univ_equiv tiles Φ, bigSep_univ_prod]
  exact bigSep_congr fun c _ => bigSep_congr fun s _ => by rw [tiles_eq]

/-- The transposed emission and the result at `f`, held whole, are what the tiles hold. -/
theorem tiles_whole (d : Dev nD) (f : Buf (Elt F) (oLoc d)) :
    (bigSep Finset.univ fun c : Fin 2 => bigSep Finset.univ fun s : Fin 16 =>
        iprop(xShare m d (tile c.val s.val) ∗ oLoc d ↦[oSet (tile c.val s.val)]{fullShare} f))
      = (iprop((xLoc d ↦{fullShare} tT m d) ∗ oLoc d ↦{fullShare} f) : sProp 𝕄) := by
  rw [bigSep_tiles (F := F) fun w => iprop(xShare m d w ∗ oLoc d ↦[oSet w]{fullShare} f), bigSep_sep', ← result_cols, ← shares]

/-- What a SparseCore is handed is what its tiles take, and what they bring is what it hands back. -/
theorem vecSplit : (K (F := F)).VecSplit' (P m) 0 := by
  intro d c
  show (bigSep Finset.univ fun s : Fin 16 => before m d (tile c.val s.val)) ⊢ |={Set.univ}=> iprop(
      (bigSep Finset.univ fun s : Fin 16 => before m d (tile c.val s.val))
      ∗ ((bigSep Finset.univ fun s : Fin 16 => after m d (tile c.val s.val)) -∗ bigSep Finset.univ fun s : Fin 16 => after m d (tile c.val s.val)))
  iintro H; imodintro
  isplitl [H]; · iexact H
  iintro H; iexact H

/-! ## The launch element of the certificate's state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

abbrev p' : DevRef τ sig := Proc.devRef .tc (main_arg0 : Ref sig .tc)
abbrev x' : DevRef τ sig := Proc.devRef .tc (main_v0 : Ref sig .tc)
abbrev o' : DevRef τ sig := Proc.devRef .tc (main_v1 : Ref sig .tc)

/-- The host's transpose. -/
abbrev opT : HloOp τ sig (Elt F) :=
  StableHlo.unary main_arg0 main_v0 ((transpose S32x32768 [1, 0] · transposes_S32768x32_S32x32768_1_0) : (⟨S32768x32, .f32⟩ : BufTy).Contents (Elt F) → (⟨S32x32768, .f32⟩ : BufTy).Contents (Elt F))

/-- The host's arrays. -/
abbrev S3 : Finset (DevRef τ sig) := {p', x', o'}

theorem held_S3 (d : Dev nD) (W : Valuation τ sig (Elt F)) :
    (held (T d) S3 W : sProp 𝕄) = iprop((pLoc d ↦{fullShare} W p') ∗ (xLoc d ↦{fullShare} W x') ∗ oLoc d ↦{fullShare} W o') := by
  unfold held S3
  rw [SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((pLoc d ↦{fullShare} W main_arg0) ∗ (xLoc d ↦{fullShare} W main_v0) ∗ oLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays' launch contents. -/
def V0 (d : Dev nD) : Valuation τ sig (Elt F) := fun b => m (d, b)

theorem unscoped_held (d : Dev nD) : (unscopedBufs d (fun b => m ((SparseCore.T d).loc b)) : sProp 𝕄) = held (T d) S3 (V0 m d) := by
  rw [unscopedBufs_eq, held_S3]; rfl

/-- The arrays after the transpose. -/
theorem held_transposed (d : Dev nD) :
    (held (T d) S3 ((opT (F := F)).result (V0 m d)) : sProp 𝕄)
      = iprop((pLoc d ↦{fullShare} m (pLoc d)) ∗ (xLoc d ↦{fullShare} tT m d) ∗ oLoc d ↦{fullShare} m (oLoc d)) := by
  rw [held_S3, StableHlo.unary_result, (opT (F := F)).result_of_not_mem (V0 m d) (b := p') (show p' ∉ ({x'} : Finset (DevRef τ sig)) by decide),
    (opT (F := F)).result_of_not_mem (V0 m d) (b := o') (show o' ∉ ({x'} : Finset (DevRef τ sig)) by decide)]
  rfl

theorem hT : (opT (F := F)).bufs ⊆ S3 := show ({p', x'} : Finset (DevRef τ sig)) ⊆ S3 by decide

theorem st0_eq (d : Dev nD) : (bigSep Finset.univ fun c : Fin ((K (F := F)).nCore 0) => (P m).st 0 d c)
    = iprop((xLoc d ↦{fullShare} tT m d) ∗ oLoc d ↦{fullShare} m (oLoc d)) := tiles_whole m d (m (oLoc d))
theorem dn0_eq (d : Dev nD) : (bigSep Finset.univ fun c : Fin ((K (F := F)).nCore 0) => (P m).dn 0 d c)
    = iprop((xLoc d ↦{fullShare} tT m d) ∗ oLoc d ↦{fullShare} outT m d) := tiles_whole m d (outT m d)

/-- What the host's program leaves: the emission as at the launch, the result decoded. -/
abbrev FIN (d : Dev nD) : sProp 𝕄 := iprop((pLoc d ↦{fullShare} m (pLoc d)) ∗ oLoc d ↦{fullShare} outT m d)

/-- The host's program: the transpose, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opT) (S := S3) hT (V := V0 m d)) $$ [Hb Hheld]
  · isplitl [Hb]; · iexact Hb
    iexact Hheld
  iintro ⟨Hb, Hheld⟩
  ihave Hh := (Entails.of_eq (held_transposed (F := F) m d)) $$ Hheld
  icases Hh with ⟨Hp, Hx, Ho⟩
  rw [wp_ret]; imodintro
  iapply ((K (F := F)).wp_run (D (F := F)) 𝒱 (EH := EH) (P := P m) κ d 0) $$ [Hst Hp Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨-, Ho⟩
  imodintro
  isplitl [Hst]; · iexact Hst
  isplitr [Hb Hts]
  · isplitl [Hp]; · iexact Hp
    iexact Ho
  isplitl [Hb] <;> iassumption

def fq (d : Dev nD) (s' : Phys nD τ sig (Elt F)) : Prop := s'.mem.mem (pLoc d) = m (pLoc d) ∧ s'.mem.mem (oLoc d) = outT m d

set_option maxRecDepth 16384 in
theorem hfin (d : Dev nD) (s' : Phys nD τ sig (Elt F)) : iprop(FIN m d ∗ SI s') ⊢ (⌜fq m d s'⌝ : sProp 𝕄) := by
  iintro ⟨⟨Hp, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (SI_pointsTo_agree (st := s') (ℓ := oLoc d) (I := Finset.univ) (q := fullShare) (f := outT m d)) $$ [HSI Ho]
  · isplitl [HSI] <;> iassumption
  icases H with %h2
  ipureintro; exact ⟨funext fun i => h1 i (Finset.mem_univ i), funext fun i => h2 i (Finset.mem_univ i)⟩

/-! ## The run -/

/-- What a run ends with: the emission unchanged, the result decoded, every semaphore counter at zero. -/
def QC : PUnit × MemSt nD τ sig (Elt F) → Prop :=
  fun r => (∀ c : Dev nD, r.2.mem (pLoc c) = m (pLoc c) ∧ r.2.mem (oLoc c) = outT m c) ∧ r.2.sem = fun _ => 0

/-- Every fair run of the program ends, leaving the emission unchanged, the result decoded and every semaphore counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch
-- ==== Proof.Reference.lean ====
module

public import proofs.«01_k».proof.Proof.Values
public import proofs.«01_k».proof.Proof.Gen.ReferenceIdeal
public import proofs.«01_k».proof.Defs
public import Idealize.ShloMosaic.Lib.StableHlo.Run
public import Idealize.ShloMosaic.PureOps.Ideal.Laws

/-!
The reference: its run, and the array it leaves, which at the extended reals is every column of the transposed emission decoded as
the kernel decodes it.
-/

@[expose] public section

noncomputable section

namespace Cert.Proof.Reference

open Cert.ReferenceIdeal Cert.ReferenceIdeal.Gen
open Idealize.ShloMosaic Idealize.ShloMosaic.TcCoe Idealize.ShloMosaic.StableHlo Idealize.ShloMosaic.ValueIdx Idealize.SL.Sem
open Cert.Proof.Values (best cell ids lag decoded outF)

/-! ## The run -/

section Run

variable {F : FTy → Type} [FloatOps F]

/-- The places one row before, from the first of them and the others. -/
def join (a : Vec F S1 .i32) (b : Vec F S32767 .i32) : Vec F S32768 .i32 :=
  concatenate S32768 0 [⟨S1, a⟩, ⟨S32767, b⟩] concatenates_S1_S32767_S32768_d0

/-- The reference's operations in order, its two functions' operations at their calls. -/
abbrev ops : List (HloOp τ sig (Elt F)) :=
  [ TRef.nullary main_call0.v0 (iotaInDim S32768x32 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S32768x32_S32768_d1 h_S_ j).1),
    TRef.quaternary (.of main_arg0) main_call0.v0 main_call0.cst main_call0.c main_call0.v1_1
      (fun x y u v j => (Host.argReduce reducer_argmax_f32_i32 x y u v reducesTo_S32768x32_S32768_d1 h_S_ j).2),
    nullary main_c (constantI S_ 32 4294967295#32),
    unary main_c main_v1 (broadcastInDim S1 ![] bcast_S_S1),
    unary main_v0 main_v2 (extractStridedSlice S32767 ![0] · slices_S32768_S32767_0),
    binary main_v1 main_v2 main_v3 join,
    binary main_v0 main_v3 main_v4 (cmpi .ne),
    nullary main_c_0 (constantI S_ 32 0#32),
    unary main_c_0 main_v5 (broadcastInDim S32768 ![] bcast_S_S32768),
    binary main_v0 main_v5 main_v6 (cmpi .ne),
    binary main_v4 main_v6 main_v7 andi,
    nullary main_c_1 (constantI S_ 32 4294967295#32),
    TRef.unary (.of main_c_1) main_call1.v0 id,
    TRef.unary main_call1.v0 main_call1.v1 (broadcastInDim S32768 ![] bcast_S_S32768),
    TRef.ternary (.of main_v7) (.of main_v0) main_call1.v1 main_call1.v2 select ]

/-- The place of the largest word in each row, as the reference finds it. -/
def argmax (x : Vec F S32768x32 .f32) : Vec F S32768 .i32 := fun j =>
  (Host.argReduce reducer_argmax_f32_i32 x (iotaInDim S32768x32 32 1) (constant S_ .f32 0xFF800000#32) (constantI S_ 32 0#32)
    reducesTo_S32768x32_S32768_d1 h_S_ j).2

/-- The places one row before, the first of them all ones. -/
def before (k : Vec F S32768 .i32) : Vec F S32768 .i32 :=
  join (F := F) (broadcastInDim S1 ![] bcast_S_S1 (constantI S_ 32 4294967295#32)) (extractStridedSlice S32767 ![0] k slices_S32768_S32767_0)

/-- What the reference computes from the emission. -/
def result (x : Vec F S32768x32 .f32) : Vec F S32768 .i32 :=
  select (andi (cmpi .ne (argmax x) (before (F := F) (argmax x)))
      (cmpi .ne (argmax x) (broadcastInDim S32768 ![] bcast_S_S32768 (constantI S_ 32 0#32))))
    (argmax x) (broadcastInDim S32768 ![] bcast_S_S32768 (constantI S_ 32 4294967295#32))

/-- The reference is that line of operations. -/
theorem main_eq (c : Dev nD) : main (F := F) c = seq ops := by
  simp only [main, fn_argmax.body, fn_where.body, seq, bind_assoc, pure_bind]
  rfl

/-- After the line the result array is `result` of the emission. -/
theorem out_eq (V : Valuation τ sig (Elt F)) : after ops V (main_v8 : DevRef τ sig) = result (V (main_arg0 : DevRef τ sig)) := by
  after_results_simp
  simp only [TRef.toBuf, TRef.ofBuf, cast_eq, id]
  rfl

/-- After the line the emission is as before it. -/
theorem arg0_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., nullary_bufs_sub ..,
    unary_bufs_sub .., unary_bufs_sub .., binary_bufs_sub .., binary_bufs_sub .., nullary_bufs_sub .., unary_bufs_sub .., binary_bufs_sub ..,
    binary_bufs_sub .., nullary_bufs_sub .., unary_bufs_sub .., unary_bufs_sub .., ternary_bufs_sub ..⟩

/-- Every fair run of the reference ends, its result array at `result` of the emission, the emission unchanged, every semaphore
counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v8) = result (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v8).trans (out_eq _), (h c main_arg0).trans (arg0_eq _)⟩,
      sem_eq_zero_of_no_sems (by decide) r.2⟩)
    (run_seq scopedRefs_eq scopedSems_eq defs main (fun _ => ops) main_eq (fun _ => ops_sub) m ρ)

end Run

/-! ## The value -/

/-- The pairs the reference goes through for row `j`: its 32 words with their places, in order. -/
theorem fiber_eq (x : Vec Ideal S32768x32 .f32) (j : S32768.Idx) :
    Host.argReduceFiber x (iotaInDim S32768x32 32 1) reducesTo_S32768x32_S32768_d1 j
      = (List.finRange 32).map fun v => (x (ix2 (j 0) v), BitVec.ofNat 32 v.val) := by
  have key : ((List.finRange S32768x32.numel).filter fun n => reducesTo_S32768x32_S32768_d1.drop (S32768x32.rowMajor.symm n) = j)
      = (List.finRange 32).map fun v => S32768x32.rowMajor (ix2 (j 0) v) := by
    have hlt : ∀ a b : Fin 32, a < b → S32768x32.rowMajor (ix2 (j 0) a) < S32768x32.rowMajor (ix2 (j 0) b) := fun a b h => by
      rw [Fin.lt_def, Shape.rowMajor_val_two, Shape.rowMajor_val_two]
      exact Nat.add_lt_add_left h _
    have h1 : ((List.finRange S32768x32.numel).filter fun n => reducesTo_S32768x32_S32768_d1.drop (S32768x32.rowMajor.symm n) = j).Pairwise (· < ·) :=
      (List.pairwise_lt_finRange _).filter _
    have h2 : ((List.finRange 32).map fun v => S32768x32.rowMajor (ix2 (j 0) v)).Pairwise (· < ·) :=
      (List.pairwise_lt_finRange _).map _ hlt
    refine List.Perm.eq_of_pairwise' (r := (· < ·)) h1 h2 ((List.perm_ext_iff_of_nodup (h1.imp fun h => h.ne) (h2.imp fun h => h.ne)).2 fun n => ?_)
    simp only [List.mem_filter, List.mem_finRange, true_and, List.mem_map, decide_eq_true_eq]
    constructor
    · intro h
      refine ⟨(S32768x32.rowMajor.symm n) 1, ?_⟩
      rw [← Equiv.eq_symm_apply]
      refine .trans ?_ (eq_ix2 _).symm
      congr 1
      rw [← h]
      exact Fin.ext (reducesTo_S32768x32_S32768_d1.drop_apply_val_of_eq _ 0 0)
    · rintro ⟨v, rfl⟩
      rw [Equiv.symm_apply_apply]
      funext b
      obtain rfl : b = 0 := Fin.fin_one_eq_zero b
      exact Fin.ext (reducesTo_S32768x32_S32768_d1.drop_apply_val_of_eq _ 0 0)
  unfold Host.argReduceFiber
  rw [key, List.map_map]
  refine List.map_congr_left fun v _ => ?_
  simp only [Function.comp, Equiv.symm_apply_apply]
  rfl

/-- A scan's place is among the rows it has met. -/
theorem best_le (X : Nat → EReal) : ∀ n : Nat, (best (F := Ideal) X n).2.toNat ≤ n
  | 0 => Nat.le_refl 0
  | n + 1 => by
    have ih := best_le X n
    simp only [best, Scalar.select]
    split
    · rw [BitVec.toNat_ofNat]; exact Nat.mod_le _ _
    · omega

/-- One step of the reference's reduction is one step of the scan. -/
theorem step_eq (X : Nat → EReal) (n : Nat) (hn : n < 31) :
    reducer_argmax_f32_i32 (F := Ideal) (best (F := Ideal) X n) (X (n + 1), BitVec.ofNat 32 (n + 1)) = best (F := Ideal) X (n + 1) := by
  have hle := best_le X n
  have hs : (best (F := Ideal) X n).2.slt (BitVec.ofNat 32 (n + 1)) = true := by
    rw [BitVec.slt_eq_decide, decide_eq_true_eq, BitVec.toInt_eq_toNat_cond, BitVec.toInt_eq_toNat_cond, BitVec.toNat_ofNat,
      Nat.mod_eq_of_lt (by omega)]
    omega
  have hb : best (F := Ideal) X (n + 1) = (Scalar.select (Ideal.cmp .ogt (X (n + 1)) (best (F := Ideal) X n).1) (X (n + 1)) (best (F := Ideal) X n).1,
      Scalar.select (Ideal.cmp .ogt (X (n + 1)) (best (F := Ideal) X n).1) (BitVec.ofNat 32 (n + 1)) (best (F := Ideal) X n).2) := rfl
  rw [hb]
  unfold reducer_argmax_f32_i32
  revert hs
  generalize best (F := Ideal) X n = p
  obtain ⟨v, k⟩ := p
  intro hs
  have hs' : k.slt (BitVec.ofNat 32 (n + 1)) = true := hs
  simp only [Ideal.cmpf_def, Ideal.cmp, IntOp.cmpi, hs']
  generalize BitVec.ofNat 32 (n + 1) = k'
  generalize X (n + 1) = w
  rcases lt_trichotomy v w with h | h | h
  · simp [Scalar.select, IntOp.ori, IntOp.andi, h, h.not_gt, h.ne]
  · subst h; simp [Scalar.select, IntOp.ori, IntOp.andi]
  · simp [Scalar.select, IntOp.ori, IntOp.andi, h, h.not_gt, h.ne']

/-- The reference's reduction over rows `0, …, n` is the scan over them. -/
theorem foldl_eq (X : Nat → EReal) : ∀ n : Nat, n < 32 →
    (List.range (n + 1)).foldl (fun a v => reducer_argmax_f32_i32 (F := Ideal) a (X v, BitVec.ofNat 32 v)) ((⊥ : EReal), 0#32)
      = best (F := Ideal) X n
  | 0, _ => by
    show reducer_argmax_f32_i32 (F := Ideal) ((⊥ : EReal), 0#32) (X 0, 0#32) = (X 0, 0#32)
    unfold reducer_argmax_f32_i32
    simp only [Ideal.cmpf_def, Ideal.cmp]
    simp [Scalar.select, IntOp.ori, IntOp.andi]
  | n + 1, h => by
    rw [List.range_succ, List.foldl_append, foldl_eq X n (by omega)]
    exact step_eq X n (by omega)

variable (x : Vec Ideal S32768x32 .f32)

/-- The emission with its two axes exchanged. -/
abbrev flipped : Vec Ideal Cert.KernelIdeal.S32x32768 .f32 :=
  transpose Cert.KernelIdeal.S32x32768 [1, 0] x Cert.KernelIdeal.Gen.transposes_S32768x32_S32x32768_1_0

/-- A word of the exchanged emission. -/
theorem cell_flipped (j : S32768.Idx) (v : Fin 32) : cell (F := Ideal) (flipped x) v.val (j 0).val = x (ix2 (j 0) v) := by
  unfold cell
  refine transpose_apply _ _ _ _ _ fun b => ?_
  match b with
  | ⟨0, _⟩ => exact (Nat.mod_eq_of_lt v.isLt).symm
  | ⟨1, _⟩ => exact (Nat.mod_eq_of_lt (j 0).isLt).symm

/-- The place the reference finds in a row is the place the scan finds in that column. -/
theorem argmax_eq (j : S32768.Idx) : argmax x j = ids (F := Ideal) (flipped x) (j 0).val := by
  unfold argmax ids
  rw [Ideal.argReduce_eq_reduce2, Host.reduce2_eq_foldl_fiber, fiber_eq, ← foldl_eq _ 31 (by omega)]
  have hbot : (constant (F := Ideal) S_ .f32 0xFF800000#32 (Shape.Idx.first h_S_), constantI S_ 32 0#32 (Shape.Idx.first h_S_)) = ((⊥ : EReal), 0#32) := by
    refine Prod.ext ?_ rfl
    show Ideal.ofBits .f32 0xFF800000#32 = ⊥
    simp [Ideal.ofBits, Ideal.ieee]
  rw [hbot]
  have hl : (List.range (31 + 1)) = (List.finRange 32).map Fin.val := List.map_coe_finRange_eq_range.symm
  rw [hl, List.foldl_map, List.foldl_map]
  refine congrArg Prod.snd (congrArg (fun f => List.foldl f _ _) ?_)
  funext a v
  exact congrArg (fun w => reducer_argmax_f32_i32 (F := Ideal) a (w, BitVec.ofNat 32 v.val)) (cell_flipped x j v).symm

/-- The places one row before are the lagging places. -/
theorem before_eq (j : S32768.Idx) : before (F := Ideal) (argmax x) j = lag (F := Ideal) (flipped x) ((j 0).val + 15) := by
  unfold before join lag
  by_cases h : (j 0).val = 0
  · rw [if_pos (by omega), concatenate_pair_apply_left (s₁ := S1) (s₂ := S32767) 0 _ _ _ j rfl (ix1 (0 : Fin 1)) fun b => by
      obtain rfl : b = 0 := Fin.fin_one_eq_zero b
      exact h.symm]
    rfl
  · have hj : (j 0).val < 32768 := (j 0).isLt
    rw [if_neg (by omega), concatenate_pair_apply_right (s₁ := S1) (s₂ := S32767) 0 _ _ _ j rfl rfl (ix1 (⟨(j 0).val - 1, by omega⟩ : Fin 32767))
      (fun b hb => absurd (Fin.fin_one_eq_zero _) hb) (by show (j 0).val - 1 + 1 = (j 0).val; omega)]
    rw [extractStridedSlice_apply _ _ _ _ (ix1 (⟨(j 0).val - 1, by omega⟩ : Fin 32768)) fun b => by
      obtain rfl : b = 0 := Fin.fin_one_eq_zero b
      show (j 0).val - 1 = 0 + ((j 0).val - 1)
      omega]
    rw [argmax_eq]
    congr 1

/-- The reference's result is the exchanged emission, every column decoded. -/
theorem result_eq : result x = outF (F := Ideal) (flipped x) := by
  funext j
  unfold outF decoded
  rw [← argmax_eq x j, ← before_eq x j]
  rfl

end Cert.Proof.Reference
-- ==== Proof.lean ====
/-
  The proof of `Cert.Claim` (proofs.«01_k».proof.Defs): the kernel's two frames from the one run of `Proof/Launch.lean`, the
  reference's from its run in `Proof/Reference.lean`, and the value claim from both: the kernel leaves every column of the
  transposed emission decoded, and the reference's result is that same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel's frame, over float words. -/
theorem frame_kernel : Cert.quiescent_Kernel := fun m ρ _ =>
  (θ_run Cert.KernelIdeal.defs _ _).mono (fun _ h => ⟨fun c => (h.1 c).1, h.2⟩) (Launch.run_main (F := Bits) m ρ)

/-- The idealized kernel's frame. -/
theorem frame_kernelIdeal : Cert.quiescent_KernelIdeal := fun m ρ _ =>
  (θ_run Cert.KernelIdeal.defs _ _).mono (fun _ h => ⟨fun c => (h.1 c).1, h.2⟩) (Launch.run_main (F := Ideal) m ρ)

/-- The reference's frame. -/
theorem frame_referenceIdeal : Cert.quiescent_ReferenceIdeal := fun m ρ _ =>
  (θ_run Cert.ReferenceIdeal.defs _ _).mono (fun _ h => ⟨fun c => (h.1 c).2, h.2⟩) (Reference.run_main (F := Ideal) m ρ)

/-- The idealized kernel and the reference leave the same result. -/
theorem value : Cert.algebraic_KernelIdeal_ReferenceIdeal := by
  intro m ρ m' ρ' _ hagree
  refine ⟨fun c => Launch.outT (F := Ideal) m c, ?_, ?_⟩
  · exact (θ_run Cert.KernelIdeal.defs _ _).mono (fun _ h c => ⟨(h.1 c).2, (h.1 c).1⟩) (Launch.run_main (F := Ideal) m ρ)
  · refine (θ_run Cert.ReferenceIdeal.defs _ _).mono (fun _ h c => ⟨(h.1 c).1.trans ?_, (h.1 c).2⟩) (Reference.run_main (F := Ideal) m' ρ')
    rw [Reference.result_eq, hagree c]
    rfl

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
